-- ==== Defs.lean ====
def Pre_Kernel [hPre_segment_named : Cert.Pre_segment_named.Facts] (m : (ℓ : Loc Cert.Kernel.nD Cert.Kernel.τ Cert.Kernel.sig) → Buf (Elt Bits) ℓ) : Prop :=
  ∀ c : Dev Cert.Kernel.nD,
    (Cert.Pre_segment_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_segment_named : Cert.Pre_segment_named.Facts] (m : (ℓ : Loc Cert.KernelIdeal.nD Cert.KernelIdeal.τ Cert.KernelIdeal.sig) → Buf (Elt Ideal) ℓ) : Prop :=
  ∀ c : Dev Cert.KernelIdeal.nD,
    (Cert.Pre_segment_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_in_segment [hPre_in_segment : Cert.Pre_in_segment.Facts] (m : (ℓ : Loc Cert.KernelIdeal.nD Cert.KernelIdeal.τ Cert.KernelIdeal.sig) → Buf (Elt Ideal) ℓ) : Prop :=
  ∀ c : Dev Cert.KernelIdeal.nD,
    (Cert.Pre_in_segment.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_uniform_grid [hPre_uniform_grid : Cert.Pre_uniform_grid.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_segment [hPre_in_segment : Cert.Pre_in_segment.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_segment.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_ReferenceIdeal_uniform_grid [hPre_uniform_grid : Cert.Pre_uniform_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_segment_named : Cert.Pre_segment_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_segment_named : Cert.Pre_segment_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_segment [hKernelIdeal : Cert.KernelIdeal.Facts] [hPre_in_segment : Cert.Pre_in_segment.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_segment m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_uniform_grid [hKernelIdeal : Cert.KernelIdeal.Facts] [hPre_uniform_grid : Cert.Pre_uniform_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_grid m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_segment [hReferenceIdeal : Cert.ReferenceIdeal.Facts] [hPre_in_segment : Cert.Pre_in_segment.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_segment m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_uniform_grid [hReferenceIdeal : Cert.ReferenceIdeal.Facts] [hPre_uniform_grid : Cert.Pre_uniform_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_segment [hKernelIdeal : Cert.KernelIdeal.Facts] [hReferenceIdeal : Cert.ReferenceIdeal.Facts] [hPre_in_segment : Cert.Pre_in_segment.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_segment m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_KernelIdeal_ReferenceIdeal_pre_uniform_grid [hKernelIdeal : Cert.KernelIdeal.Facts] [hReferenceIdeal : Cert.ReferenceIdeal.Facts] [hPre_uniform_grid : Cert.Pre_uniform_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_segment_named : Cert.Pre_segment_named.Facts) (hPre_in_segment : Cert.Pre_in_segment.Facts) (hPre_uniform_grid : Cert.Pre_uniform_grid.Facts),
    quiescent_Kernel (hKernel := hKernel) (hPre_segment_named := hPre_segment_named)
    ∧ quiescent_KernelIdeal (hKernelIdeal := hKernelIdeal) (hPre_segment_named := hPre_segment_named)
    ∧ quiescent_KernelIdeal_pre_in_segment (hKernelIdeal := hKernelIdeal) (hPre_in_segment := hPre_in_segment)
    ∧ quiescent_KernelIdeal_pre_uniform_grid (hKernelIdeal := hKernelIdeal) (hPre_uniform_grid := hPre_uniform_grid)
    ∧ quiescent_ReferenceIdeal (hReferenceIdeal := hReferenceIdeal)
    ∧ quiescent_ReferenceIdeal_pre_in_segment (hReferenceIdeal := hReferenceIdeal) (hPre_in_segment := hPre_in_segment)
    ∧ quiescent_ReferenceIdeal_pre_uniform_grid (hReferenceIdeal := hReferenceIdeal) (hPre_uniform_grid := hPre_uniform_grid)
    ∧ preserves_Kernel_KernelIdeal
    ∧ algebraic_KernelIdeal_ReferenceIdeal_pre_in_segment (hKernelIdeal := hKernelIdeal) (hReferenceIdeal := hReferenceIdeal) (hPre_in_segment := hPre_in_segment)
    ∧ algebraic_KernelIdeal_ReferenceIdeal_pre_uniform_grid (hKernelIdeal := hKernelIdeal) (hReferenceIdeal := hReferenceIdeal) (hPre_uniform_grid := hPre_uniform_grid)
-- ==== Pre_in_segment.lean ====
abbrev S8388608x1 : Shape := ⟨2, ![8388608, 1]⟩
abbrev S21 : Shape := ⟨1, ![21]⟩
abbrev S8388608 : Shape := ⟨1, ![8388608]⟩
abbrev S1 : Shape := ⟨1, ![1]⟩
abbrev S_ : Shape := ⟨0, ![]⟩
abbrev S20 : Shape := ⟨1, ![20]⟩
abbrev S1x20 : Shape := ⟨2, ![1, 20]⟩
abbrev S8388608x20 : Shape := ⟨2, ![8388608, 20]⟩

class Facts : Prop where
  shapeCasts_S8388608x1_S8388608 : S8388608x1.ShapeCasts S8388608
  slices_S21_S1_1 : S21.Slices ![1] S1
  shapeCasts_S1_S_ : S1.ShapeCasts S_
  slices_S21_S1_0 : S21.Slices ![0] S1
  bcast_S_S8388608 : S_.BroadcastsInDim S8388608 (![] : Fin 0 → Fin S8388608.rank)
  slices_S21_S20_0 : S21.Slices ![0] S20
  bcast_S20_S1x20_1 : S20.BroadcastsInDim S1x20 (![1] : Fin 1 → Fin S1x20.rank)
  bcast_S8388608_S8388608x1_0 : S8388608.BroadcastsInDim S8388608x1 (![0] : Fin 1 → Fin S8388608x1.rank)
  bcast_S1x20_S8388608x20_0_1 : S1x20.BroadcastsInDim S8388608x20 (![0, 1] : Fin 2 → Fin S8388608x20.rank)
  bcast_S8388608x1_S8388608x20_0_1 : S8388608x1.BroadcastsInDim S8388608x20 (![0, 1] : Fin 2 → Fin S8388608x20.rank)
  slices_S21_S20_1 : S21.Slices ![1] S20
  bcast_S_S20 : S_.BroadcastsInDim S20 (![] : Fin 0 → Fin S20.rank)

variable [Facts]

def fn_part3 {F : FTy → Type} [FloatOps F] (main_v32 : IVec S8388608x20 1) (main_v37 : IVec S8388608x20 1) (main_v40 : IVec S8388608x1 1) (main_v64 : IVec S1x20 1) : IVec S8388608x20 1 :=
  let main_v65 : IVec S8388608x20 1 := broadcastInDim S8388608x20 ![0, 1] bcast_S8388608x1_S8388608x20_0_1 main_v40
  let main_v66 : IVec S8388608x20 1 := broadcastInDim S8388608x20 ![0, 1] bcast_S1x20_S8388608x20_0_1 main_v64
  let main_v67 : IVec S8388608x20 1 := andi main_v65 main_v66
  let main_v68 : IVec S8388608x20 1 := ori main_v37 main_v32
  let main_v69 : IVec S8388608x20 1 := andi main_v67 main_v68
  main_v69

def fn_part2 {F : FTy → Type} [FloatOps F] (main_arg1 : FVec F S21 .f32) (main_arg2 : FVec F S21 .f32) (main_v32 : IVec S8388608x20 1) (main_v37 : IVec S8388608x20 1) (main_v40 : IVec S8388608x1 1) (main_v42 : FVec F S20 .f32) (main_v43 : FVec F S20 .f32) : IVec S8388608x20 1 :=
  let main_v44 : IVec S20 1 := cmpf .olt main_v42 main_v43
  let main_v45 : FVec F S20 .f32 := (extractStridedSlice S20 ![1] · slices_S21_S20_1) main_arg1
  let main_v46 : FVec F S20 .f32 := Host.absf main_v45
  let main_cst_2 : FVec F S_ .f32 := constant S_ .f32 0x7F800000#32
  let main_v47 : FVec F S20 .f32 := broadcastInDim S20 ![] bcast_S_S20 main_cst_2
  let main_v48 : IVec S20 1 := cmpf .olt main_v46 main_v47
  let main_v49 : IVec S20 1 := andi main_v44 main_v48
  let main_v50 : FVec F S20 .f32 := (extractStridedSlice S20 ![0] · slices_S21_S20_0) main_arg1
  let main_v51 : FVec F S20 .f32 := (extractStridedSlice S20 ![1] · slices_S21_S20_1) main_arg1
  let main_v52 : IVec S20 1 := cmpf .olt main_v50 main_v51
  let main_v53 : IVec S20 1 := andi main_v49 main_v52
  let main_v54 : FVec F S20 .f32 := (extractStridedSlice S20 ![0] · slices_S21_S20_0) main_arg2
  let main_v55 : FVec F S20 .f32 := Host.absf main_v54
  let main_cst_3 : FVec F S_ .f32 := constant S_ .f32 0x7F800000#32
  let main_v56 : FVec F S20 .f32 := broadcastInDim S20 ![] bcast_S_S20 main_cst_3
  let main_v57 : IVec S20 1 := cmpf .olt main_v55 main_v56
  let main_v58 : IVec S20 1 := andi main_v53 main_v57
  let main_v59 : FVec F S20 .f32 := (extractStridedSlice S20 ![1] · slices_S21_S20_1) main_arg2
  let main_v60 : FVec F S20 .f32 := Host.absf main_v59
  let main_cst_4 : FVec F S_ .f32 := constant S_ .f32 0x7F800000#32
  let main_v61 : FVec F S20 .f32 := broadcastInDim S20 ![] bcast_S_S20 main_cst_4
  let main_v62 : IVec S20 1 := cmpf .olt main_v60 main_v61
  let main_v63 : IVec S20 1 := andi main_v58 main_v62
  let main_v64 : IVec S1x20 1 := broadcastInDim S1x20 ![1] bcast_S20_S1x20_1 main_v63
  fn_part3 (F := F) main_v32 main_v37 main_v40 main_v64

def fn_part1 {F : FTy → Type} [FloatOps F] (main_arg1 : FVec F S21 .f32) (main_arg2 : FVec F S21 .f32) (main_v0 : FVec F S8388608 .f32) (main_v18 : IVec S8388608 32) (main_v19 : IVec S20 32) (main_v21 : FVec F S1x20 .f32) : IVec S8388608x20 1 :=
  let main_v22 : FVec F S8388608x1 .f32 := broadcastInDim S8388608x1 ![0] bcast_S8388608_S8388608x1_0 main_v0
  let main_v23 : FVec F S8388608x20 .f32 := broadcastInDim S8388608x20 ![0, 1] bcast_S1x20_S8388608x20_0_1 main_v21
  let main_v24 : FVec F S8388608x20 .f32 := broadcastInDim S8388608x20 ![0, 1] bcast_S8388608x1_S8388608x20_0_1 main_v22
  let main_v25 : IVec S8388608x20 1 := cmpf .ole main_v23 main_v24
  let main_v26 : FVec F S8388608x1 .f32 := broadcastInDim S8388608x1 ![0] bcast_S8388608_S8388608x1_0 main_v0
  let main_v27 : FVec F S20 .f32 := (extractStridedSlice S20 ![1] · slices_S21_S20_1) main_arg1
  let main_v28 : FVec F S1x20 .f32 := broadcastInDim S1x20 ![1] bcast_S20_S1x20_1 main_v27
  let main_v29 : FVec F S8388608x20 .f32 := broadcastInDim S8388608x20 ![0, 1] bcast_S8388608x1_S8388608x20_0_1 main_v26
  let main_v30 : FVec F S8388608x20 .f32 := broadcastInDim S8388608x20 ![0, 1] bcast_S1x20_S8388608x20_0_1 main_v28
  let main_v31 : IVec S8388608x20 1 := cmpf .ole main_v29 main_v30
  let main_v32 : IVec S8388608x20 1 := andi main_v25 main_v31
  let main_v33 : IVec S8388608x1 32 := broadcastInDim S8388608x1 ![0] bcast_S8388608_S8388608x1_0 main_v18
  let main_v34 : IVec S1x20 32 := broadcastInDim S1x20 ![1] bcast_S20_S1x20_1 main_v19
  let main_v35 : IVec S8388608x20 32 := broadcastInDim S8388608x20 ![0, 1] bcast_S8388608x1_S8388608x20_0_1 main_v33
  let main_v36 : IVec S8388608x20 32 := broadcastInDim S8388608x20 ![0, 1] bcast_S1x20_S8388608x20_0_1 main_v34
  let main_v37 : IVec S8388608x20 1 := cmpi .ne main_v35 main_v36
  let main_c_0 : IVec S_ 32 := constantI S_ 32 0#32
  let main_v38 : IVec S8388608 32 := broadcastInDim S8388608 ![] bcast_S_S8388608 main_c_0
  let main_v39 : IVec S8388608 1 := cmpi .sge main_v18 main_v38
  let main_v40 : IVec S8388608x1 1 := broadcastInDim S8388608x1 ![0] bcast_S8388608_S8388608x1_0 main_v39
  let main_v41 : FVec F S20 .f32 := (extractStridedSlice S20 ![0] · slices_S21_S20_0) main_arg1
  let main_v42 : FVec F S20 .f32 := Host.absf main_v41
  let main_cst_1 : FVec F S_ .f32 := constant S_ .f32 0x7F800000#32
  let main_v43 : FVec F S20 .f32 := broadcastInDim S20 ![] bcast_S_S20 main_cst_1
  fn_part2 (F := F) main_arg1 main_arg2 main_v32 main_v37 main_v40 main_v42 main_v43

def fn {F : FTy → Type} [FloatOps F] (main_arg0 : FVec F S8388608x1 .f32) (main_arg1 : FVec F S21 .f32) (main_arg2 : FVec F S21 .f32) : IVec S8388608x20 1 :=
  let main_v0 : FVec F S8388608 .f32 := shapeCast S8388608 main_arg0 shapeCasts_S8388608x1_S8388608
  let main_v1 : FVec F S8388608 .f32 := shapeCast S8388608 main_arg0 shapeCasts_S8388608x1_S8388608
  let main_v2 : FVec F S1 .f32 := (extractStridedSlice S1 ![1] · slices_S21_S1_1) main_arg1
  let main_v3 : FVec F S_ .f32 := shapeCast S_ main_v2 shapeCasts_S1_S_
  let main_v4 : FVec F S1 .f32 := (extractStridedSlice S1 ![0] · slices_S21_S1_0) main_arg1
  let main_v5 : FVec F S_ .f32 := shapeCast S_ main_v4 shapeCasts_S1_S_
  let main_v6 : FVec F S_ .f32 := subf main_v3 main_v5
  let main_cst : FVec F S_ .f32 := constant S_ .f32 0x3F800000#32
  let main_v7 : FVec F S_ .f32 := Host.divf main_cst main_v6
  let main_v8 : FVec F S8388608 .f32 := broadcastInDim S8388608 ![] bcast_S_S8388608 main_v7
  let main_v9 : FVec F S8388608 .f32 := mulf main_v1 main_v8
  let main_v10 : FVec F S1 .f32 := (extractStridedSlice S1 ![0] · slices_S21_S1_0) main_arg1
  let main_v11 : FVec F S_ .f32 := shapeCast S_ main_v10 shapeCasts_S1_S_
  let main_v12 : FVec F S_ .f32 := Host.negf main_v11
  let main_v13 : FVec F S_ .f32 := mulf main_v12 main_v7
  let main_v14 : FVec F S8388608 .f32 := broadcastInDim S8388608 ![] bcast_S_S8388608 main_v13
  let main_v15 : FVec F S8388608 .f32 := addf main_v9 main_v14
  let main_v16 : IVec S8388608 32 := fptosi 32 main_v15
  let main_c : IVec S_ 32 := constantI S_ 32 19#32
  let main_v17 : IVec S8388608 32 := broadcastInDim S8388608 ![] bcast_S_S8388608 main_c
  let main_v18 : IVec S8388608 32 := minsi main_v16 main_v17
  let main_v19 : IVec S20 32 := iotaInDim S20 32 0
  let main_v20 : FVec F S20 .f32 := (extractStridedSlice S20 ![0] · slices_S21_S20_0) main_arg1
  let main_v21 : FVec F S1x20 .f32 := broadcastInDim S1x20 ![1] bcast_S20_S1x20_1 main_v20
  fn_part1 (F := F) main_arg1 main_arg2 main_v0 main_v18 main_v19 main_v21
-- ==== Pre_segment_named.lean ====
abbrev S8388608x1 : Shape := ⟨2, ![8388608, 1]⟩
abbrev S21 : Shape := ⟨1, ![21]⟩
abbrev S8388608 : Shape := ⟨1, ![8388608]⟩
abbrev S1 : Shape := ⟨1, ![1]⟩
abbrev S_ : Shape := ⟨0, ![]⟩

class Facts : Prop where
  shapeCasts_S8388608x1_S8388608 : S8388608x1.ShapeCasts S8388608
  slices_S21_S1_1 : S21.Slices ![1] S1
  shapeCasts_S1_S_ : S1.ShapeCasts S_
  slices_S21_S1_0 : S21.Slices ![0] S1
  bcast_S_S8388608 : S_.BroadcastsInDim S8388608 (![] : Fin 0 → Fin S8388608.rank)

variable [Facts]

def fn {F : FTy → Type} [FloatOps F] (main_arg0 : FVec F S8388608x1 .f32) (main_arg1 : FVec F S21 .f32) (main_arg2 : FVec F S21 .f32) : IVec S8388608 1 :=
  let main_v0 : FVec F S8388608 .f32 := shapeCast S8388608 main_arg0 shapeCasts_S8388608x1_S8388608
  let main_v1 : FVec F S1 .f32 := (extractStridedSlice S1 ![1] · slices_S21_S1_1) main_arg1
  let main_v2 : FVec F S_ .f32 := shapeCast S_ main_v1 shapeCasts_S1_S_
  let main_v3 : FVec F S1 .f32 := (extractStridedSlice S1 ![0] · slices_S21_S1_0) main_arg1
  let main_v4 : FVec F S_ .f32 := shapeCast S_ main_v3 shapeCasts_S1_S_
  let main_v5 : FVec F S_ .f32 := subf main_v2 main_v4
  let main_cst : FVec F S_ .f32 := constant S_ .f32 0x3F800000#32
  let main_v6 : FVec F S_ .f32 := Host.divf main_cst main_v5
  let main_v7 : FVec F S8388608 .f32 := broadcastInDim S8388608 ![] bcast_S_S8388608 main_v6
  let main_v8 : FVec F S8388608 .f32 := mulf main_v0 main_v7
  let main_v9 : FVec F S1 .f32 := (extractStridedSlice S1 ![0] · slices_S21_S1_0) main_arg1
  let main_v10 : FVec F S_ .f32 := shapeCast S_ main_v9 shapeCasts_S1_S_
  let main_v11 : FVec F S_ .f32 := Host.negf main_v10
  let main_v12 : FVec F S_ .f32 := mulf main_v11 main_v6
  let main_v13 : FVec F S8388608 .f32 := broadcastInDim S8388608 ![] bcast_S_S8388608 main_v12
  let main_v14 : FVec F S8388608 .f32 := addf main_v8 main_v13
  let main_v15 : IVec S8388608 32 := fptosi 32 main_v14
  let main_c : IVec S_ 32 := constantI S_ 32 19#32
  let main_v16 : IVec S8388608 32 := broadcastInDim S8388608 ![] bcast_S_S8388608 main_c
  let main_v17 : IVec S8388608 32 := minsi main_v15 main_v16
  let main_c_0 : IVec S_ 32 := constantI S_ 32 0#32
  let main_v18 : IVec S8388608 32 := broadcastInDim S8388608 ![] bcast_S_S8388608 main_c_0
  let main_v19 : IVec S8388608 1 := cmpi .sge main_v17 main_v18
  main_v19
-- ==== Pre_uniform_grid.lean ====
abbrev S8388608x1 : Shape := ⟨2, ![8388608, 1]⟩
abbrev S21 : Shape := ⟨1, ![21]⟩
abbrev S8388608 : Shape := ⟨1, ![8388608]⟩
abbrev S20 : Shape := ⟨1, ![20]⟩
abbrev S1 : Shape := ⟨1, ![1]⟩
abbrev S_ : Shape := ⟨0, ![]⟩
abbrev S1x20 : Shape := ⟨2, ![1, 20]⟩
abbrev S8388608x20 : Shape := ⟨2, ![8388608, 20]⟩

class Facts : Prop where
  shapeCasts_S8388608x1_S8388608 : S8388608x1.ShapeCasts S8388608
  slices_S21_S20_0 : S21.Slices ![0] S20
  slices_S21_S1_0 : S21.Slices ![0] S1
  shapeCasts_S1_S_ : S1.ShapeCasts S_
  slices_S21_S1_1 : S21.Slices ![1] S1
  bcast_S_S20 : S_.BroadcastsInDim S20 (![] : Fin 0 → Fin S20.rank)
  slices_S21_S20_1 : S21.Slices ![1] S20
  bcast_S_S8388608 : S_.BroadcastsInDim S8388608 (![] : Fin 0 → Fin S8388608.rank)
  slices_S21_S1_20 : S21.Slices ![20] S1
  bcast_S8388608_S8388608x1_0 : S8388608.BroadcastsInDim S8388608x1 (![0] : Fin 1 → Fin S8388608x1.rank)
  bcast_S20_S1x20_1 : S20.BroadcastsInDim S1x20 (![1] : Fin 1 → Fin S1x20.rank)
  bcast_S8388608x1_S8388608x20_0_1 : S8388608x1.BroadcastsInDim S8388608x20 (![0, 1] : Fin 2 → Fin S8388608x20.rank)
  bcast_S1x20_S8388608x20_0_1 : S1x20.BroadcastsInDim S8388608x20 (![0, 1] : Fin 2 → Fin S8388608x20.rank)

variable [Facts]

def fn_part3 {F : FTy → Type} [FloatOps F] (main_v41 : IVec S8388608x1 1) (main_v66 : IVec S1x20 1) : IVec S8388608x20 1 :=
  let main_v67 : IVec S8388608x20 1 := broadcastInDim S8388608x20 ![0, 1] bcast_S8388608x1_S8388608x20_0_1 main_v41
  let main_v68 : IVec S8388608x20 1 := broadcastInDim S8388608x20 ![0, 1] bcast_S1x20_S8388608x20_0_1 main_v66
  let main_v69 : IVec S8388608x20 1 := andi main_v67 main_v68
  main_v69

def fn_part2 {F : FTy → Type} [FloatOps F] (main_arg1 : FVec F S21 .f32) (main_arg2 : FVec F S21 .f32) (main_v31 : IVec S20 1) (main_v41 : IVec S8388608x1 1) (main_v45 : IVec S20 1) : IVec S8388608x20 1 :=
  let main_v46 : FVec F S20 .f32 := (extractStridedSlice S20 ![1] · slices_S21_S20_1) main_arg1
  let main_v47 : FVec F S20 .f32 := Host.absf main_v46
  let main_cst_1 : FVec F S_ .f32 := constant S_ .f32 0x7F800000#32
  let main_v48 : FVec F S20 .f32 := broadcastInDim S20 ![] bcast_S_S20 main_cst_1
  let main_v49 : IVec S20 1 := cmpf .olt main_v47 main_v48
  let main_v50 : IVec S20 1 := andi main_v45 main_v49
  let main_v51 : FVec F S20 .f32 := (extractStridedSlice S20 ![0] · slices_S21_S20_0) main_arg1
  let main_v52 : FVec F S20 .f32 := (extractStridedSlice S20 ![1] · slices_S21_S20_1) main_arg1
  let main_v53 : IVec S20 1 := cmpf .olt main_v51 main_v52
  let main_v54 : IVec S20 1 := andi main_v50 main_v53
  let main_v55 : FVec F S20 .f32 := (extractStridedSlice S20 ![0] · slices_S21_S20_0) main_arg2
  let main_v56 : FVec F S20 .f32 := Host.absf main_v55
  let main_cst_2 : FVec F S_ .f32 := constant S_ .f32 0x7F800000#32
  let main_v57 : FVec F S20 .f32 := broadcastInDim S20 ![] bcast_S_S20 main_cst_2
  let main_v58 : IVec S20 1 := cmpf .olt main_v56 main_v57
  let main_v59 : IVec S20 1 := andi main_v54 main_v58
  let main_v60 : FVec F S20 .f32 := (extractStridedSlice S20 ![1] · slices_S21_S20_1) main_arg2
  let main_v61 : FVec F S20 .f32 := Host.absf main_v60
  let main_cst_3 : FVec F S_ .f32 := constant S_ .f32 0x7F800000#32
  let main_v62 : FVec F S20 .f32 := broadcastInDim S20 ![] bcast_S_S20 main_cst_3
  let main_v63 : IVec S20 1 := cmpf .olt main_v61 main_v62
  let main_v64 : IVec S20 1 := andi main_v59 main_v63
  let main_v65 : IVec S20 1 := andi main_v64 main_v31
  let main_v66 : IVec S1x20 1 := broadcastInDim S1x20 ![1] bcast_S20_S1x20_1 main_v65
  fn_part3 (F := F) main_v41 main_v66

def fn_part1 {F : FTy → Type} [FloatOps F] (main_arg1 : FVec F S21 .f32) (main_arg2 : FVec F S21 .f32) (main_v0 : FVec F S8388608 .f32) (main_v15 : IVec S20 1) (main_v16 : FVec F S20 .f32) (main_v18 : FVec F S_ .f32) (main_v20 : FVec F S20 .f32) (main_v22 : FVec F S_ .f32) : IVec S8388608x20 1 :=
  let main_v23 : FVec F S1 .f32 := (extractStridedSlice S1 ![0] · slices_S21_S1_0) main_arg1
  let main_v24 : FVec F S_ .f32 := shapeCast S_ main_v23 shapeCasts_S1_S_
  let main_v25 : FVec F S_ .f32 := subf main_v22 main_v24
  let main_v26 : FVec F S20 .f32 := broadcastInDim S20 ![] bcast_S_S20 main_v25
  let main_v27 : FVec F S20 .f32 := mulf main_v20 main_v26
  let main_v28 : FVec F S20 .f32 := broadcastInDim S20 ![] bcast_S_S20 main_v18
  let main_v29 : FVec F S20 .f32 := addf main_v28 main_v27
  let main_v30 : IVec S20 1 := cmpf .oeq main_v16 main_v29
  let main_v31 : IVec S20 1 := andi main_v15 main_v30
  let main_v32 : FVec F S1 .f32 := (extractStridedSlice S1 ![0] · slices_S21_S1_0) main_arg1
  let main_v33 : FVec F S_ .f32 := shapeCast S_ main_v32 shapeCasts_S1_S_
  let main_v34 : FVec F S8388608 .f32 := broadcastInDim S8388608 ![] bcast_S_S8388608 main_v33
  let main_v35 : IVec S8388608 1 := cmpf .ole main_v34 main_v0
  let main_v36 : FVec F S1 .f32 := (extractStridedSlice S1 ![20] · slices_S21_S1_20) main_arg1
  let main_v37 : FVec F S_ .f32 := shapeCast S_ main_v36 shapeCasts_S1_S_
  let main_v38 : FVec F S8388608 .f32 := broadcastInDim S8388608 ![] bcast_S_S8388608 main_v37
  let main_v39 : IVec S8388608 1 := cmpf .ole main_v0 main_v38
  let main_v40 : IVec S8388608 1 := andi main_v35 main_v39
  let main_v41 : IVec S8388608x1 1 := broadcastInDim S8388608x1 ![0] bcast_S8388608_S8388608x1_0 main_v40
  let main_v42 : FVec F S20 .f32 := (extractStridedSlice S20 ![0] · slices_S21_S20_0) main_arg1
  let main_v43 : FVec F S20 .f32 := Host.absf main_v42
  let main_cst_0 : FVec F S_ .f32 := constant S_ .f32 0x7F800000#32
  let main_v44 : FVec F S20 .f32 := broadcastInDim S20 ![] bcast_S_S20 main_cst_0
  let main_v45 : IVec S20 1 := cmpf .olt main_v43 main_v44
  fn_part2 (F := F) main_arg1 main_arg2 main_v31 main_v41 main_v45

def fn {F : FTy → Type} [FloatOps F] (main_arg0 : FVec F S8388608x1 .f32) (main_arg1 : FVec F S21 .f32) (main_arg2 : FVec F S21 .f32) : IVec S8388608x20 1 :=
  let main_v0 : FVec F S8388608 .f32 := shapeCast S8388608 main_arg0 shapeCasts_S8388608x1_S8388608
  let main_v1 : IVec S20 32 := iotaInDim S20 32 0
  let main_v2 : FVec F S20 .f32 := sitofp .f32 main_v1
  let main_v3 : FVec F S20 .f32 := (extractStridedSlice S20 ![0] · slices_S21_S20_0) main_arg1
  let main_v4 : FVec F S1 .f32 := (extractStridedSlice S1 ![0] · slices_S21_S1_0) main_arg1
  let main_v5 : FVec F S_ .f32 := shapeCast S_ main_v4 shapeCasts_S1_S_
  let main_v6 : FVec F S1 .f32 := (extractStridedSlice S1 ![1] · slices_S21_S1_1) main_arg1
  let main_v7 : FVec F S_ .f32 := shapeCast S_ main_v6 shapeCasts_S1_S_
  let main_v8 : FVec F S1 .f32 := (extractStridedSlice S1 ![0] · slices_S21_S1_0) main_arg1
  let main_v9 : FVec F S_ .f32 := shapeCast S_ main_v8 shapeCasts_S1_S_
  let main_v10 : FVec F S_ .f32 := subf main_v7 main_v9
  let main_v11 : FVec F S20 .f32 := broadcastInDim S20 ![] bcast_S_S20 main_v10
  let main_v12 : FVec F S20 .f32 := mulf main_v2 main_v11
  let main_v13 : FVec F S20 .f32 := broadcastInDim S20 ![] bcast_S_S20 main_v5
  let main_v14 : FVec F S20 .f32 := addf main_v13 main_v12
  let main_v15 : IVec S20 1 := cmpf .oeq main_v3 main_v14
  let main_v16 : FVec F S20 .f32 := (extractStridedSlice S20 ![1] · slices_S21_S20_1) main_arg1
  let main_v17 : FVec F S1 .f32 := (extractStridedSlice S1 ![0] · slices_S21_S1_0) main_arg1
  let main_v18 : FVec F S_ .f32 := shapeCast S_ main_v17 shapeCasts_S1_S_
  let main_cst : FVec F S_ .f32 := constant S_ .f32 0x3F800000#32
  let main_v19 : FVec F S20 .f32 := broadcastInDim S20 ![] bcast_S_S20 main_cst
  let main_v20 : FVec F S20 .f32 := addf main_v2 main_v19
  let main_v21 : FVec F S1 .f32 := (extractStridedSlice S1 ![1] · slices_S21_S1_1) main_arg1
  let main_v22 : FVec F S_ .f32 := shapeCast S_ main_v21 shapeCasts_S1_S_
  fn_part1 (F := F) main_arg1 main_arg2 main_v0 main_v15 main_v16 main_v18 main_v20 main_v22
-- ==== Kernel.lean ====
abbrev S8388608x1 : Shape := ⟨2, ![8388608, 1]⟩
abbrev S21 : Shape := ⟨1, ![21]⟩
abbrev S8388608 : Shape := ⟨1, ![8388608]⟩
abbrev S20 : Shape := ⟨1, ![20]⟩
abbrev S1 : Shape := ⟨1, ![1]⟩
abbrev S_ : Shape := ⟨0, ![]⟩
abbrev S16 : Shape := ⟨1, ![16]⟩
abbrev S32 : Shape := ⟨1, ![32]⟩
abbrev S16384 : Shape := ⟨1, ![16384]⟩

abbrev nBuf : Table → Nat
  | .hbm => 30
  | .local .scVector .vmem => 7
  | _ => 0

abbrev bufTy : (tb : Table) → Fin (nBuf tb) → BufTy
  | .hbm, ⟨0, _⟩ => ⟨S8388608x1, .f32⟩
  | .hbm, ⟨1, _⟩ => ⟨S21, .f32⟩
  | .hbm, ⟨2, _⟩ => ⟨S21, .f32⟩
  | .hbm, ⟨3, _⟩ => ⟨S8388608, .f32⟩
  | .hbm, ⟨4, _⟩ => ⟨S20, .f32⟩
  | .hbm, ⟨5, _⟩ => ⟨S20, .f32⟩
  | .hbm, ⟨6, _⟩ => ⟨S20, .f32⟩
  | .hbm, ⟨7, _⟩ => ⟨S20, .f32⟩
  | .hbm, ⟨8, _⟩ => ⟨S20, .f32⟩
  | .hbm, ⟨9, _⟩ => ⟨S20, .f32⟩
  | .hbm, ⟨10, _⟩ => ⟨S20, .f32⟩
  | .hbm, ⟨11, _⟩ => ⟨S20, .f32⟩
  | .hbm, ⟨12, _⟩ => ⟨S20, .f32⟩
  | .hbm, ⟨13, _⟩ => ⟨S20, .f32⟩
  | .hbm, ⟨14, _⟩ => ⟨S20, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16, .f32⟩
  | .hbm, ⟨23, _⟩ => ⟨S1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16, .f32⟩
  | .hbm, ⟨28, _⟩ => ⟨S32, .f32⟩
  | .hbm, ⟨29, _⟩ => ⟨S8388608, .f32⟩
  | .local .scVector .vmem, ⟨0, _⟩ => ⟨S16384, .f32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | .local .scVector .vmem, ⟨4, _⟩ => ⟨S20, .f32⟩
  | .local .scVector .vmem, ⟨5, _⟩ => ⟨S20, .f32⟩
  | .local .scVector .vmem, ⟨6, _⟩ => ⟨S32, .f32⟩
  | _, _ => ⟨S8388608x1, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v0_scv : Ref sig .scVector := ⟨.hbm, 3, rfl⟩
abbrev main_v11_scv : Ref sig .scVector := ⟨.hbm, 14, rfl⟩
abbrev main_v7_scv : Ref sig .scVector := ⟨.hbm, 10, rfl⟩
abbrev main_v24_scv : Ref sig .scVector := ⟨.hbm, 28, rfl⟩
abbrev main_v25_scv : Ref sig .scVector := ⟨.hbm, 29, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let v3 : BitVec 32 := Scalar.addi v2 c0_i32
  ![v3.toNat]
@[reducible] def k0_t1_loop : Scf.Loop 32 :=
  let c0_i32_1 : BitVec 32 := 0#32
  let c1024_i32 : BitVec 32 := 1024#32
  let v15 : BitVec 32 := Scalar.addi c0_i32_1 c1024_i32
  let c1_i32 : BitVec 32 := 1#32
  ⟨c0_i32_1, v15, c1_i32⟩
def k0_off2 (k0_t1 : Fin k0_t1_loop.trips) : Fin 1 → Nat :=
  let c0_i32_111 : BitVec 32 := 0#32
  let c0_i32_1 : BitVec 32 := 0#32
  let c1_i32 : BitVec 32 := 1#32
  let arg21 : BitVec 32 := Scf.iv c0_i32_1 c1_i32 k0_t1
  let c1_i32_110 : BitVec 32 := 1#32
  let v214 : BitVec 32 := Scalar.muli arg21 c1_i32_110
  let v215 : BitVec 32 := Scalar.addi c0_i32_111 v214
  let c16_i32 : BitVec 32 := 16#32
  let v216 : BitVec 32 := Scalar.muli v215 c16_i32
  let v217 : Index := Scalar.indexCast v216
  ![v217.toNat]

def k0_chk1 (v222 : IVec S16 32) : Prop :=
  (∀ a x, ((![v222] : Fin 1 → IVec S16 32) a x).toNat < S20.size a) ∧
  (∀ a x, ((![v222] : Fin 1 → IVec S16 32) a x).toNat < S20.size a)
theorem k0_idx1_inb : ∀ (v222 : IVec S16 32) (k0_hw1 : k0_chk1 v222), ∀ a x, ((![v222] : Fin 1 → IVec S16 32) a x).toNat < S20.size a := fun v222 k0_hw1 => k0_hw1.1
theorem k0_idx2_inb : ∀ (v222 : IVec S16 32) (k0_hw1 : k0_chk1 v222), ∀ a x, ((![v222] : Fin 1 → IVec S16 32) a x).toNat < S20.size a := fun v222 k0_hw1 => k0_hw1.2
def k0_off3 (k0_t1 : Fin k0_t1_loop.trips) : Fin 1 → Nat :=
  let c0_i32_111 : BitVec 32 := 0#32
  let c0_i32_1 : BitVec 32 := 0#32
  let c1_i32 : BitVec 32 := 1#32
  let arg21 : BitVec 32 := Scf.iv c0_i32_1 c1_i32 k0_t1
  let c1_i32_110 : BitVec 32 := 1#32
  let v214 : BitVec 32 := Scalar.muli arg21 c1_i32_110
  let v215 : BitVec 32 := Scalar.addi c0_i32_111 v214
  let c16_i32_112 : BitVec 32 := 16#32
  let v227 : BitVec 32 := Scalar.muli v215 c16_i32_112
  let v228 : Index := Scalar.indexCast v227
  ![v228.toNat]
@[reducible] def k0_t2_loop : Scf.Loop 32 :=
  let c0_i32_5 : BitVec 32 := 0#32
  let c1024_i32_6 : BitVec 32 := 1024#32
  let v25 : BitVec 32 := Scalar.addi c0_i32_5 c1024_i32_6
  let c1_i32_7 : BitVec 32 := 1#32
  ⟨c0_i32_5, v25, c1_i32_7⟩
def k0_off4 (k0_t2 : Fin k0_t2_loop.trips) : Fin 1 → Nat :=
  let c0_i32_111 : BitVec 32 := 0#32
  let c0_i32_5 : BitVec 32 := 0#32
  let c1_i32_7 : BitVec 32 := 1#32
  let arg21 : BitVec 32 := Scf.iv c0_i32_5 c1_i32_7 k0_t2
  let c1_i32_110 : BitVec 32 := 1#32
  let v214 : BitVec 32 := Scalar.muli arg21 c1_i32_110
  let v215 : BitVec 32 := Scalar.addi c0_i32_111 v214
  let c16_i32 : BitVec 32 := 16#32
  let v216 : BitVec 32 := Scalar.muli v215 c16_i32
  let v217 : Index := Scalar.indexCast v216
  ![v217.toNat]

def k0_chk2 (v222 : IVec S16 32) : Prop :=
  (∀ a x, ((![v222] : Fin 1 → IVec S16 32) a x).toNat < S20.size a) ∧
  (∀ a x, ((![v222] : Fin 1 → IVec S16 32) a x).toNat < S20.size a)
theorem k0_idx3_inb : ∀ (v222 : IVec S16 32) (k0_hw2 : k0_chk2 v222), ∀ a x, ((![v222] : Fin 1 → IVec S16 32) a x).toNat < S20.size a := fun v222 k0_hw2 => k0_hw2.1
theorem k0_idx4_inb : ∀ (v222 : IVec S16 32) (k0_hw2 : k0_chk2 v222), ∀ a x, ((![v222] : Fin 1 → IVec S16 32) a x).toNat < S20.size a := fun v222 k0_hw2 => k0_hw2.2
def k0_off5 (k0_t2 : Fin k0_t2_loop.trips) : Fin 1 → Nat :=
  let c0_i32_111 : BitVec 32 := 0#32
  let c0_i32_5 : BitVec 32 := 0#32
  let c1_i32_7 : BitVec 32 := 1#32
  let arg21 : BitVec 32 := Scf.iv c0_i32_5 c1_i32_7 k0_t2
  let c1_i32_110 : BitVec 32 := 1#32
  let v214 : BitVec 32 := Scalar.muli arg21 c1_i32_110
  let v215 : BitVec 32 := Scalar.addi c0_i32_111 v214
  let c16_i32_112 : BitVec 32 := 16#32
  let v227 : BitVec 32 := Scalar.muli v215 c16_i32_112
  let v228 : Index := Scalar.indexCast v227
  ![v228.toNat]
@[reducible] def k0_t3_loop : Scf.Loop 32 :=
  let c0_i32_12 : BitVec 32 := 0#32
  let c1024_i32_13 : BitVec 32 := 1024#32
  let v38 : BitVec 32 := Scalar.addi c0_i32_12 c1024_i32_13
  let c1_i32_14 : BitVec 32 := 1#32
  ⟨c0_i32_12, v38, c1_i32_14⟩
def k0_off6 (k0_t3 : Fin k0_t3_loop.trips) : Fin 1 → Nat :=
  let c0_i32_111 : BitVec 32 := 0#32
  let c0_i32_12 : BitVec 32 := 0#32
  let c1_i32_14 : BitVec 32 := 1#32
  let arg21 : BitVec 32 := Scf.iv c0_i32_12 c1_i32_14 k0_t3
  let c1_i32_110 : BitVec 32 := 1#32
  let v214 : BitVec 32 := Scalar.muli arg21 c1_i32_110
  let v215 : BitVec 32 := Scalar.addi c0_i32_111 v214
  let c16_i32 : BitVec 32 := 16#32
  let v216 : BitVec 32 := Scalar.muli v215 c16_i32
  let v217 : Index := Scalar.indexCast v216
  ![v217.toNat]

def k0_chk3 (v222 : IVec S16 32) : Prop :=
  (∀ a x, ((![v222] : Fin 1 → IVec S16 32) a x).toNat < S20.size a) ∧
  (∀ a x, ((![v222] : Fin 1 → IVec S16 32) a x).toNat < S20.size a)
theorem k0_idx5_inb : ∀ (v222 : IVec S16 32) (k0_hw3 : k0_chk3 v222), ∀ a x, ((![v222] : Fin 1 → IVec S16 32) a x).toNat < S20.size a := fun v222 k0_hw3 => k0_hw3.1
theorem k0_idx6_inb : ∀ (v222 : IVec S16 32) (k0_hw3 : k0_chk3 v222), ∀ a x, ((![v222] : Fin 1 → IVec S16 32) a x).toNat < S20.size a := fun v222 k0_hw3 => k0_hw3.2
def k0_off7 (k0_t3 : Fin k0_t3_loop.trips) : Fin 1 → Nat :=
  let c0_i32_111 : BitVec 32 := 0#32
  let c0_i32_12 : BitVec 32 := 0#32
  let c1_i32_14 : BitVec 32 := 1#32
  let arg21 : BitVec 32 := Scf.iv c0_i32_12 c1_i32_14 k0_t3
  let c1_i32_110 : BitVec 32 := 1#32
  let v214 : BitVec 32 := Scalar.muli arg21 c1_i32_110
  let v215 : BitVec 32 := Scalar.addi c0_i32_111 v214
  let c16_i32_112 : BitVec 32 := 16#32
  let v227 : BitVec 32 := Scalar.muli v215 c16_i32_112
  let v228 : Index := Scalar.indexCast v227
  ![v228.toNat]
@[reducible] def k0_t4_loop : Scf.Loop 32 :=
  let c0_i32_19 : BitVec 32 := 0#32
  let c1024_i32_20 : BitVec 32 := 1024#32
  let v51 : BitVec 32 := Scalar.addi c0_i32_19 c1024_i32_20
  let c1_i32_21 : BitVec 32 := 1#32
  ⟨c0_i32_19, v51, c1_i32_21⟩
def k0_off8 (k0_t4 : Fin k0_t4_loop.trips) : Fin 1 → Nat :=
  let c0_i32_111 : BitVec 32 := 0#32
  let c0_i32_19 : BitVec 32 := 0#32
  let c1_i32_21 : BitVec 32 := 1#32
  let arg21 : BitVec 32 := Scf.iv c0_i32_19 c1_i32_21 k0_t4
  let c1_i32_110 : BitVec 32 := 1#32
  let v214 : BitVec 32 := Scalar.muli arg21 c1_i32_110
  let v215 : BitVec 32 := Scalar.addi c0_i32_111 v214
  let c16_i32 : BitVec 32 := 16#32
  let v216 : BitVec 32 := Scalar.muli v215 c16_i32
  let v217 : Index := Scalar.indexCast v216
  ![v217.toNat]

def k0_chk4 (v222 : IVec S16 32) : Prop :=
  (∀ a x, ((![v222] : Fin 1 → IVec S16 32) a x).toNat < S20.size a) ∧
  (∀ a x, ((![v222] : Fin 1 → IVec S16 32) a x).toNat < S20.size a)
theorem k0_idx7_inb : ∀ (v222 : IVec S16 32) (k0_hw4 : k0_chk4 v222), ∀ a x, ((![v222] : Fin 1 → IVec S16 32) a x).toNat < S20.size a := fun v222 k0_hw4 => k0_hw4.1
theorem k0_idx8_inb : ∀ (v222 : IVec S16 32) (k0_hw4 : k0_chk4 v222), ∀ a x, ((![v222] : Fin 1 → IVec S16 32) a x).toNat < S20.size a := fun v222 k0_hw4 => k0_hw4.2
def k0_off9 (k0_t4 : Fin k0_t4_loop.trips) : Fin 1 → Nat :=
  let c0_i32_111 : BitVec 32 := 0#32
  let c0_i32_19 : BitVec 32 := 0#32
  let c1_i32_21 : BitVec 32 := 1#32
  let arg21 : BitVec 32 := Scf.iv c0_i32_19 c1_i32_21 k0_t4
  let c1_i32_110 : BitVec 32 := 1#32
  let v214 : BitVec 32 := Scalar.muli arg21 c1_i32_110
  let v215 : BitVec 32 := Scalar.addi c0_i32_111 v214
  let c16_i32_112 : BitVec 32 := 16#32
  let v227 : BitVec 32 := Scalar.muli v215 c16_i32_112
  let v228 : Index := Scalar.indexCast v227
  ![v228.toNat]
@[reducible] def k0_t5_loop : Scf.Loop 32 :=
  let c0_i32_26 : BitVec 32 := 0#32
  let c1024_i32_27 : BitVec 32 := 1024#32
  let v64 : BitVec 32 := Scalar.addi c0_i32_26 c1024_i32_27
  let c1_i32_28 : BitVec 32 := 1#32
  ⟨c0_i32_26, v64, c1_i32_28⟩
def k0_off10 (k0_t5 : Fin k0_t5_loop.trips) : Fin 1 → Nat :=
  let c0_i32_111 : BitVec 32 := 0#32
  let c0_i32_26 : BitVec 32 := 0#32
  let c1_i32_28 : BitVec 32 := 1#32
  let arg21 : BitVec 32 := Scf.iv c0_i32_26 c1_i32_28 k0_t5
  let c1_i32_110 : BitVec 32 := 1#32
  let v214 : BitVec 32 := Scalar.muli arg21 c1_i32_110
  let v215 : BitVec 32 := Scalar.addi c0_i32_111 v214
  let c16_i32 : BitVec 32 := 16#32
  let v216 : BitVec 32 := Scalar.muli v215 c16_i32
  let v217 : Index := Scalar.indexCast v216
  ![v217.toNat]

def k0_chk5 (v222 : IVec S16 32) : Prop :=
  (∀ a x, ((![v222] : Fin 1 → IVec S16 32) a x).toNat < S20.size a) ∧
  (∀ a x, ((![v222] : Fin 1 → IVec S16 32) a x).toNat < S20.size a)
theorem k0_idx9_inb : ∀ (v222 : IVec S16 32) (k0_hw5 : k0_chk5 v222), ∀ a x, ((![v222] : Fin 1 → IVec S16 32) a x).toNat < S20.size a := fun v222 k0_hw5 => k0_hw5.1
theorem k0_idx10_inb : ∀ (v222 : IVec S16 32) (k0_hw5 : k0_chk5 v222), ∀ a x, ((![v222] : Fin 1 → IVec S16 32) a x).toNat < S20.size a := fun v222 k0_hw5 => k0_hw5.2
def k0_off11 (k0_t5 : Fin k0_t5_loop.trips) : Fin 1 → Nat :=
  let c0_i32_111 : BitVec 32 := 0#32
  let c0_i32_26 : BitVec 32 := 0#32
  let c1_i32_28 : BitVec 32 := 1#32
  let arg21 : BitVec 32 := Scf.iv c0_i32_26 c1_i32_28 k0_t5
  let c1_i32_110 : BitVec 32 := 1#32
  let v214 : BitVec 32 := Scalar.muli arg21 c1_i32_110
  let v215 : BitVec 32 := Scalar.addi c0_i32_111 v214
  let c16_i32_112 : BitVec 32 := 16#32
  let v227 : BitVec 32 := Scalar.muli v215 c16_i32_112
  let v228 : Index := Scalar.indexCast v227
  ![v228.toNat]
@[reducible] def k0_t6_loop : Scf.Loop 32 :=
  let c0_i32_33 : BitVec 32 := 0#32
  let c1024_i32_34 : BitVec 32 := 1024#32
  let v77 : BitVec 32 := Scalar.addi c0_i32_33 c1024_i32_34
  let c1_i32_35 : BitVec 32 := 1#32
  ⟨c0_i32_33, v77, c1_i32_35⟩
def k0_off12 (k0_t6 : Fin k0_t6_loop.trips) : Fin 1 → Nat :=
  let c0_i32_111 : BitVec 32 := 0#32
  let c0_i32_33 : BitVec 32 := 0#32
  let c1_i32_35 : BitVec 32 := 1#32
  let arg21 : BitVec 32 := Scf.iv c0_i32_33 c1_i32_35 k0_t6
  let c1_i32_110 : BitVec 32 := 1#32
  let v214 : BitVec 32 := Scalar.muli arg21 c1_i32_110
  let v215 : BitVec 32 := Scalar.addi c0_i32_111 v214
  let c16_i32 : BitVec 32 := 16#32
  let v216 : BitVec 32 := Scalar.muli v215 c16_i32
  let v217 : Index := Scalar.indexCast v216
  ![v217.toNat]

def k0_chk6 (v222 : IVec S16 32) : Prop :=
  (∀ a x, ((![v222] : Fin 1 → IVec S16 32) a x).toNat < S20.size a) ∧
  (∀ a x, ((![v222] : Fin 1 → IVec S16 32) a x).toNat < S20.size a)
theorem k0_idx11_inb : ∀ (v222 : IVec S16 32) (k0_hw6 : k0_chk6 v222), ∀ a x, ((![v222] : Fin 1 → IVec S16 32) a x).toNat < S20.size a := fun v222 k0_hw6 => k0_hw6.1
theorem k0_idx12_inb : ∀ (v222 : IVec S16 32) (k0_hw6 : k0_chk6 v222), ∀ a x, ((![v222] : Fin 1 → IVec S16 32) a x).toNat < S20.size a := fun v222 k0_hw6 => k0_hw6.2
def k0_off13 (k0_t6 : Fin k0_t6_loop.trips) : Fin 1 → Nat :=
  let c0_i32_111 : BitVec 32 := 0#32
  let c0_i32_33 : BitVec 32 := 0#32
  let c1_i32_35 : BitVec 32 := 1#32
  let arg21 : BitVec 32 := Scf.iv c0_i32_33 c1_i32_35 k0_t6
  let c1_i32_110 : BitVec 32 := 1#32
  let v214 : BitVec 32 := Scalar.muli arg21 c1_i32_110
  let v215 : BitVec 32 := Scalar.addi c0_i32_111 v214
  let c16_i32_112 : BitVec 32 := 16#32
  let v227 : BitVec 32 := Scalar.muli v215 c16_i32_112
  let v228 : Index := Scalar.indexCast v227
  ![v228.toNat]
@[reducible] def k0_t7_loop : Scf.Loop 32 :=
  let c0_i32_40 : BitVec 32 := 0#32
  let c1024_i32_41 : BitVec 32 := 1024#32
  let v90 : BitVec 32 := Scalar.addi c0_i32_40 c1024_i32_41
  let c1_i32_42 : BitVec 32 := 1#32
  ⟨c0_i32_40, v90, c1_i32_42⟩
def k0_off14 (k0_t7 : Fin k0_t7_loop.trips) : Fin 1 → Nat :=
  let c0_i32_111 : BitVec 32 := 0#32
  let c0_i32_40 : BitVec 32 := 0#32
  let c1_i32_42 : BitVec 32 := 1#32
  let arg21 : BitVec 32 := Scf.iv c0_i32_40 c1_i32_42 k0_t7
  let c1_i32_110 : BitVec 32 := 1#32
  let v214 : BitVec 32 := Scalar.muli arg21 c1_i32_110
  let v215 : BitVec 32 := Scalar.addi c0_i32_111 v214
  let c16_i32 : BitVec 32 := 16#32
  let v216 : BitVec 32 := Scalar.muli v215 c16_i32
  let v217 : Index := Scalar.indexCast v216
  ![v217.toNat]

def k0_chk7 (v222 : IVec S16 32) : Prop :=
  (∀ a x, ((![v222] : Fin 1 → IVec S16 32) a x).toNat < S20.size a) ∧
  (∀ a x, ((![v222] : Fin 1 → IVec S16 32) a x).toNat < S20.size a)
theorem k0_idx13_inb : ∀ (v222 : IVec S16 32) (k0_hw7 : k0_chk7 v222), ∀ a x, ((![v222] : Fin 1 → IVec S16 32) a x).toNat < S20.size a := fun v222 k0_hw7 => k0_hw7.1
theorem k0_idx14_inb : ∀ (v222 : IVec S16 32) (k0_hw7 : k0_chk7 v222), ∀ a x, ((![v222] : Fin 1 → IVec S16 32) a x).toNat < S20.size a := fun v222 k0_hw7 => k0_hw7.2
def k0_off15 (k0_t7 : Fin k0_t7_loop.trips) : Fin 1 → Nat :=
  let c0_i32_111 : BitVec 32 := 0#32
  let c0_i32_40 : BitVec 32 := 0#32
  let c1_i32_42 : BitVec 32 := 1#32
  let arg21 : BitVec 32 := Scf.iv c0_i32_40 c1_i32_42 k0_t7
  let c1_i32_110 : BitVec 32 := 1#32
  let v214 : BitVec 32 := Scalar.muli arg21 c1_i32_110
  let v215 : BitVec 32 := Scalar.addi c0_i32_111 v214
  let c16_i32_112 : BitVec 32 := 16#32
  let v227 : BitVec 32 := Scalar.muli v215 c16_i32_112
  let v228 : Index := Scalar.indexCast v227
  ![v228.toNat]
@[reducible] def k0_t8_loop : Scf.Loop 32 :=
  let c0_i32_47 : BitVec 32 := 0#32
  let c1024_i32_48 : BitVec 32 := 1024#32
  let v103 : BitVec 32 := Scalar.addi c0_i32_47 c1024_i32_48
  let c1_i32_49 : BitVec 32 := 1#32
  ⟨c0_i32_47, v103, c1_i32_49⟩
def k0_off16 (k0_t8 : Fin k0_t8_loop.trips) : Fin 1 → Nat :=
  let c0_i32_111 : BitVec 32 := 0#32
  let c0_i32_47 : BitVec 32 := 0#32
  let c1_i32_49 : BitVec 32 := 1#32
  let arg21 : BitVec 32 := Scf.iv c0_i32_47 c1_i32_49 k0_t8
  let c1_i32_110 : BitVec 32 := 1#32
  let v214 : BitVec 32 := Scalar.muli arg21 c1_i32_110
  let v215 : BitVec 32 := Scalar.addi c0_i32_111 v214
  let c16_i32 : BitVec 32 := 16#32
  let v216 : BitVec 32 := Scalar.muli v215 c16_i32
  let v217 : Index := Scalar.indexCast v216
  ![v217.toNat]

def k0_chk8 (v222 : IVec S16 32) : Prop :=
  (∀ a x, ((![v222] : Fin 1 → IVec S16 32) a x).toNat < S20.size a) ∧
  (∀ a x, ((![v222] : Fin 1 → IVec S16 32) a x).toNat < S20.size a)
theorem k0_idx15_inb : ∀ (v222 : IVec S16 32) (k0_hw8 : k0_chk8 v222), ∀ a x, ((![v222] : Fin 1 → IVec S16 32) a x).toNat < S20.size a := fun v222 k0_hw8 => k0_hw8.1
theorem k0_idx16_inb : ∀ (v222 : IVec S16 32) (k0_hw8 : k0_chk8 v222), ∀ a x, ((![v222] : Fin 1 → IVec S16 32) a x).toNat < S20.size a := fun v222 k0_hw8 => k0_hw8.2
def k0_off17 (k0_t8 : Fin k0_t8_loop.trips) : Fin 1 → Nat :=
  let c0_i32_111 : BitVec 32 := 0#32
  let c0_i32_47 : BitVec 32 := 0#32
  let c1_i32_49 : BitVec 32 := 1#32
  let arg21 : BitVec 32 := Scf.iv c0_i32_47 c1_i32_49 k0_t8
  let c1_i32_110 : BitVec 32 := 1#32
  let v214 : BitVec 32 := Scalar.muli arg21 c1_i32_110
  let v215 : BitVec 32 := Scalar.addi c0_i32_111 v214
  let c16_i32_112 : BitVec 32 := 16#32
  let v227 : BitVec 32 := Scalar.muli v215 c16_i32_112
  let v228 : Index := Scalar.indexCast v227
  ![v228.toNat]
@[reducible] def k0_t9_loop : Scf.Loop 32 :=
  let c0_i32_54 : BitVec 32 := 0#32
  let c1024_i32_55 : BitVec 32 := 1024#32
  let v116 : BitVec 32 := Scalar.addi c0_i32_54 c1024_i32_55
  let c1_i32_56 : BitVec 32 := 1#32
  ⟨c0_i32_54, v116, c1_i32_56⟩
def k0_off18 (k0_t9 : Fin k0_t9_loop.trips) : Fin 1 → Nat :=
  let c0_i32_111 : BitVec 32 := 0#32
  let c0_i32_54 : BitVec 32 := 0#32
  let c1_i32_56 : BitVec 32 := 1#32
  let arg21 : BitVec 32 := Scf.iv c0_i32_54 c1_i32_56 k0_t9
  let c1_i32_110 : BitVec 32 := 1#32
  let v214 : BitVec 32 := Scalar.muli arg21 c1_i32_110
  let v215 : BitVec 32 := Scalar.addi c0_i32_111 v214
  let c16_i32 : BitVec 32 := 16#32
  let v216 : BitVec 32 := Scalar.muli v215 c16_i32
  let v217 : Index := Scalar.indexCast v216
  ![v217.toNat]

def k0_chk9 (v222 : IVec S16 32) : Prop :=
  (∀ a x, ((![v222] : Fin 1 → IVec S16 32) a x).toNat < S20.size a) ∧
  (∀ a x, ((![v222] : Fin 1 → IVec S16 32) a x).toNat < S20.size a)
theorem k0_idx17_inb : ∀ (v222 : IVec S16 32) (k0_hw9 : k0_chk9 v222), ∀ a x, ((![v222] : Fin 1 → IVec S16 32) a x).toNat < S20.size a := fun v222 k0_hw9 => k0_hw9.1
theorem k0_idx18_inb : ∀ (v222 : IVec S16 32) (k0_hw9 : k0_chk9 v222), ∀ a x, ((![v222] : Fin 1 → IVec S16 32) a x).toNat < S20.size a := fun v222 k0_hw9 => k0_hw9.2
def k0_off19 (k0_t9 : Fin k0_t9_loop.trips) : Fin 1 → Nat :=
  let c0_i32_111 : BitVec 32 := 0#32
  let c0_i32_54 : BitVec 32 := 0#32
  let c1_i32_56 : BitVec 32 := 1#32
  let arg21 : BitVec 32 := Scf.iv c0_i32_54 c1_i32_56 k0_t9
  let c1_i32_110 : BitVec 32 := 1#32
  let v214 : BitVec 32 := Scalar.muli arg21 c1_i32_110
  let v215 : BitVec 32 := Scalar.addi c0_i32_111 v214
  let c16_i32_112 : BitVec 32 := 16#32
  let v227 : BitVec 32 := Scalar.muli v215 c16_i32_112
  let v228 : Index := Scalar.indexCast v227
  ![v228.toNat]
@[reducible] def k0_t10_loop : Scf.Loop 32 :=
  let c0_i32_61 : BitVec 32 := 0#32
  let c1024_i32_62 : BitVec 32 := 1024#32
  let v129 : BitVec 32 := Scalar.addi c0_i32_61 c1024_i32_62
  let c1_i32_63 : BitVec 32 := 1#32
  ⟨c0_i32_61, v129, c1_i32_63⟩
def k0_off20 (k0_t10 : Fin k0_t10_loop.trips) : Fin 1 → Nat :=
  let c0_i32_111 : BitVec 32 := 0#32
  let c0_i32_61 : BitVec 32 := 0#32
  let c1_i32_63 : BitVec 32 := 1#32
  let arg21 : BitVec 32 := Scf.iv c0_i32_61 c1_i32_63 k0_t10
  let c1_i32_110 : BitVec 32 := 1#32
  let v214 : BitVec 32 := Scalar.muli arg21 c1_i32_110
  let v215 : BitVec 32 := Scalar.addi c0_i32_111 v214
  let c16_i32 : BitVec 32 := 16#32
  let v216 : BitVec 32 := Scalar.muli v215 c16_i32
  let v217 : Index := Scalar.indexCast v216
  ![v217.toNat]

def k0_chk10 (v222 : IVec S16 32) : Prop :=
  (∀ a x, ((![v222] : Fin 1 → IVec S16 32) a x).toNat < S20.size a) ∧
  (∀ a x, ((![v222] : Fin 1 → IVec S16 32) a x).toNat < S20.size a)
theorem k0_idx19_inb : ∀ (v222 : IVec S16 32) (k0_hw10 : k0_chk10 v222), ∀ a x, ((![v222] : Fin 1 → IVec S16 32) a x).toNat < S20.size a := fun v222 k0_hw10 => k0_hw10.1
theorem k0_idx20_inb : ∀ (v222 : IVec S16 32) (k0_hw10 : k0_chk10 v222), ∀ a x, ((![v222] : Fin 1 → IVec S16 32) a x).toNat < S20.size a := fun v222 k0_hw10 => k0_hw10.2
def k0_off21 (k0_t10 : Fin k0_t10_loop.trips) : Fin 1 → Nat :=
  let c0_i32_111 : BitVec 32 := 0#32
  let c0_i32_61 : BitVec 32 := 0#32
  let c1_i32_63 : BitVec 32 := 1#32
  let arg21 : BitVec 32 := Scf.iv c0_i32_61 c1_i32_63 k0_t10
  let c1_i32_110 : BitVec 32 := 1#32
  let v214 : BitVec 32 := Scalar.muli arg21 c1_i32_110
  let v215 : BitVec 32 := Scalar.addi c0_i32_111 v214
  let c16_i32_112 : BitVec 32 := 16#32
  let v227 : BitVec 32 := Scalar.muli v215 c16_i32_112
  let v228 : Index := Scalar.indexCast v227
  ![v228.toNat]
@[reducible] def k0_t11_loop : Scf.Loop 32 :=
  let c0_i32_68 : BitVec 32 := 0#32
  let c1024_i32_69 : BitVec 32 := 1024#32
  let v142 : BitVec 32 := Scalar.addi c0_i32_68 c1024_i32_69
  let c1_i32_70 : BitVec 32 := 1#32
  ⟨c0_i32_68, v142, c1_i32_70⟩
def k0_off22 (k0_t11 : Fin k0_t11_loop.trips) : Fin 1 → Nat :=
  let c0_i32_111 : BitVec 32 := 0#32
  let c0_i32_68 : BitVec 32 := 0#32
  let c1_i32_70 : BitVec 32 := 1#32
  let arg21 : BitVec 32 := Scf.iv c0_i32_68 c1_i32_70 k0_t11
  let c1_i32_110 : BitVec 32 := 1#32
  let v214 : BitVec 32 := Scalar.muli arg21 c1_i32_110
  let v215 : BitVec 32 := Scalar.addi c0_i32_111 v214
  let c16_i32 : BitVec 32 := 16#32
  let v216 : BitVec 32 := Scalar.muli v215 c16_i32
  let v217 : Index := Scalar.indexCast v216
  ![v217.toNat]

def k0_chk11 (v222 : IVec S16 32) : Prop :=
  (∀ a x, ((![v222] : Fin 1 → IVec S16 32) a x).toNat < S20.size a) ∧
  (∀ a x, ((![v222] : Fin 1 → IVec S16 32) a x).toNat < S20.size a)
theorem k0_idx21_inb : ∀ (v222 : IVec S16 32) (k0_hw11 : k0_chk11 v222), ∀ a x, ((![v222] : Fin 1 → IVec S16 32) a x).toNat < S20.size a := fun v222 k0_hw11 => k0_hw11.1
theorem k0_idx22_inb : ∀ (v222 : IVec S16 32) (k0_hw11 : k0_chk11 v222), ∀ a x, ((![v222] : Fin 1 → IVec S16 32) a x).toNat < S20.size a := fun v222 k0_hw11 => k0_hw11.2
def k0_off23 (k0_t11 : Fin k0_t11_loop.trips) : Fin 1 → Nat :=
  let c0_i32_111 : BitVec 32 := 0#32
  let c0_i32_68 : BitVec 32 := 0#32
  let c1_i32_70 : BitVec 32 := 1#32
  let arg21 : BitVec 32 := Scf.iv c0_i32_68 c1_i32_70 k0_t11
  let c1_i32_110 : BitVec 32 := 1#32
  let v214 : BitVec 32 := Scalar.muli arg21 c1_i32_110
  let v215 : BitVec 32 := Scalar.addi c0_i32_111 v214
  let c16_i32_112 : BitVec 32 := 16#32
  let v227 : BitVec 32 := Scalar.muli v215 c16_i32_112
  let v228 : Index := Scalar.indexCast v227
  ![v228.toNat]
@[reducible] def k0_t12_loop : Scf.Loop 32 :=
  let c0_i32_75 : BitVec 32 := 0#32
  let c1024_i32_76 : BitVec 32 := 1024#32
  let v155 : BitVec 32 := Scalar.addi c0_i32_75 c1024_i32_76
  let c1_i32_77 : BitVec 32 := 1#32
  ⟨c0_i32_75, v155, c1_i32_77⟩
def k0_off24 (k0_t12 : Fin k0_t12_loop.trips) : Fin 1 → Nat :=
  let c0_i32_111 : BitVec 32 := 0#32
  let c0_i32_75 : BitVec 32 := 0#32
  let c1_i32_77 : BitVec 32 := 1#32
  let arg21 : BitVec 32 := Scf.iv c0_i32_75 c1_i32_77 k0_t12
  let c1_i32_110 : BitVec 32 := 1#32
  let v214 : BitVec 32 := Scalar.muli arg21 c1_i32_110
  let v215 : BitVec 32 := Scalar.addi c0_i32_111 v214
  let c16_i32 : BitVec 32 := 16#32
  let v216 : BitVec 32 := Scalar.muli v215 c16_i32
  let v217 : Index := Scalar.indexCast v216
  ![v217.toNat]

def k0_chk12 (v222 : IVec S16 32) : Prop :=
  (∀ a x, ((![v222] : Fin 1 → IVec S16 32) a x).toNat < S20.size a) ∧
  (∀ a x, ((![v222] : Fin 1 → IVec S16 32) a x).toNat < S20.size a)
theorem k0_idx23_inb : ∀ (v222 : IVec S16 32) (k0_hw12 : k0_chk12 v222), ∀ a x, ((![v222] : Fin 1 → IVec S16 32) a x).toNat < S20.size a := fun v222 k0_hw12 => k0_hw12.1
theorem k0_idx24_inb : ∀ (v222 : IVec S16 32) (k0_hw12 : k0_chk12 v222), ∀ a x, ((![v222] : Fin 1 → IVec S16 32) a x).toNat < S20.size a := fun v222 k0_hw12 => k0_hw12.2
def k0_off25 (k0_t12 : Fin k0_t12_loop.trips) : Fin 1 → Nat :=
  let c0_i32_111 : BitVec 32 := 0#32
  let c0_i32_75 : BitVec 32 := 0#32
  let c1_i32_77 : BitVec 32 := 1#32
  let arg21 : BitVec 32 := Scf.iv c0_i32_75 c1_i32_77 k0_t12
  let c1_i32_110 : BitVec 32 := 1#32
  let v214 : BitVec 32 := Scalar.muli arg21 c1_i32_110
  let v215 : BitVec 32 := Scalar.addi c0_i32_111 v214
  let c16_i32_112 : BitVec 32 := 16#32
  let v227 : BitVec 32 := Scalar.muli v215 c16_i32_112
  let v228 : Index := Scalar.indexCast v227
  ![v228.toNat]
@[reducible] def k0_t13_loop : Scf.Loop 32 :=
  let c0_i32_82 : BitVec 32 := 0#32
  let c1024_i32_83 : BitVec 32 := 1024#32
  let v168 : BitVec 32 := Scalar.addi c0_i32_82 c1024_i32_83
  let c1_i32_84 : BitVec 32 := 1#32
  ⟨c0_i32_82, v168, c1_i32_84⟩
def k0_off26 (k0_t13 : Fin k0_t13_loop.trips) : Fin 1 → Nat :=
  let c0_i32_111 : BitVec 32 := 0#32
  let c0_i32_82 : BitVec 32 := 0#32
  let c1_i32_84 : BitVec 32 := 1#32
  let arg21 : BitVec 32 := Scf.iv c0_i32_82 c1_i32_84 k0_t13
  let c1_i32_110 : BitVec 32 := 1#32
  let v214 : BitVec 32 := Scalar.muli arg21 c1_i32_110
  let v215 : BitVec 32 := Scalar.addi c0_i32_111 v214
  let c16_i32 : BitVec 32 := 16#32
  let v216 : BitVec 32 := Scalar.muli v215 c16_i32
  let v217 : Index := Scalar.indexCast v216
  ![v217.toNat]

def k0_chk13 (v222 : IVec S16 32) : Prop :=
  (∀ a x, ((![v222] : Fin 1 → IVec S16 32) a x).toNat < S20.size a) ∧
  (∀ a x, ((![v222] : Fin 1 → IVec S16 32) a x).toNat < S20.size a)
theorem k0_idx25_inb : ∀ (v222 : IVec S16 32) (k0_hw13 : k0_chk13 v222), ∀ a x, ((![v222] : Fin 1 → IVec S16 32) a x).toNat < S20.size a := fun v222 k0_hw13 => k0_hw13.1
theorem k0_idx26_inb : ∀ (v222 : IVec S16 32) (k0_hw13 : k0_chk13 v222), ∀ a x, ((![v222] : Fin 1 → IVec S16 32) a x).toNat < S20.size a := fun v222 k0_hw13 => k0_hw13.2
def k0_off27 (k0_t13 : Fin k0_t13_loop.trips) : Fin 1 → Nat :=
  let c0_i32_111 : BitVec 32 := 0#32
  let c0_i32_82 : BitVec 32 := 0#32
  let c1_i32_84 : BitVec 32 := 1#32
  let arg21 : BitVec 32 := Scf.iv c0_i32_82 c1_i32_84 k0_t13
  let c1_i32_110 : BitVec 32 := 1#32
  let v214 : BitVec 32 := Scalar.muli arg21 c1_i32_110
  let v215 : BitVec 32 := Scalar.addi c0_i32_111 v214
  let c16_i32_112 : BitVec 32 := 16#32
  let v227 : BitVec 32 := Scalar.muli v215 c16_i32_112
  let v228 : Index := Scalar.indexCast v227
  ![v228.toNat]
@[reducible] def k0_t14_loop : Scf.Loop 32 :=
  let c0_i32_89 : BitVec 32 := 0#32
  let c1024_i32_90 : BitVec 32 := 1024#32
  let v181 : BitVec 32 := Scalar.addi c0_i32_89 c1024_i32_90
  let c1_i32_91 : BitVec 32 := 1#32
  ⟨c0_i32_89, v181, c1_i32_91⟩
def k0_off28 (k0_t14 : Fin k0_t14_loop.trips) : Fin 1 → Nat :=
  let c0_i32_111 : BitVec 32 := 0#32
  let c0_i32_89 : BitVec 32 := 0#32
  let c1_i32_91 : BitVec 32 := 1#32
  let arg21 : BitVec 32 := Scf.iv c0_i32_89 c1_i32_91 k0_t14
  let c1_i32_110 : BitVec 32 := 1#32
  let v214 : BitVec 32 := Scalar.muli arg21 c1_i32_110
  let v215 : BitVec 32 := Scalar.addi c0_i32_111 v214
  let c16_i32 : BitVec 32 := 16#32
  let v216 : BitVec 32 := Scalar.muli v215 c16_i32
  let v217 : Index := Scalar.indexCast v216
  ![v217.toNat]

def k0_chk14 (v222 : IVec S16 32) : Prop :=
  (∀ a x, ((![v222] : Fin 1 → IVec S16 32) a x).toNat < S20.size a) ∧
  (∀ a x, ((![v222] : Fin 1 → IVec S16 32) a x).toNat < S20.size a)
theorem k0_idx27_inb : ∀ (v222 : IVec S16 32) (k0_hw14 : k0_chk14 v222), ∀ a x, ((![v222] : Fin 1 → IVec S16 32) a x).toNat < S20.size a := fun v222 k0_hw14 => k0_hw14.1
theorem k0_idx28_inb : ∀ (v222 : IVec S16 32) (k0_hw14 : k0_chk14 v222), ∀ a x, ((![v222] : Fin 1 → IVec S16 32) a x).toNat < S20.size a := fun v222 k0_hw14 => k0_hw14.2
def k0_off29 (k0_t14 : Fin k0_t14_loop.trips) : Fin 1 → Nat :=
  let c0_i32_111 : BitVec 32 := 0#32
  let c0_i32_89 : BitVec 32 := 0#32
  let c1_i32_91 : BitVec 32 := 1#32
  let arg21 : BitVec 32 := Scf.iv c0_i32_89 c1_i32_91 k0_t14
  let c1_i32_110 : BitVec 32 := 1#32
  let v214 : BitVec 32 := Scalar.muli arg21 c1_i32_110
  let v215 : BitVec 32 := Scalar.addi c0_i32_111 v214
  let c16_i32_112 : BitVec 32 := 16#32
  let v227 : BitVec 32 := Scalar.muli v215 c16_i32_112
  let v228 : Index := Scalar.indexCast v227
  ![v228.toNat]
@[reducible] def k0_t15_loop : Scf.Loop 32 :=
  let c0_i32_96 : BitVec 32 := 0#32
  let c1024_i32_97 : BitVec 32 := 1024#32
  let v194 : BitVec 32 := Scalar.addi c0_i32_96 c1024_i32_97
  let c1_i32_98 : BitVec 32 := 1#32
  ⟨c0_i32_96, v194, c1_i32_98⟩
def k0_off30 (k0_t15 : Fin k0_t15_loop.trips) : Fin 1 → Nat :=
  let c0_i32_111 : BitVec 32 := 0#32
  let c0_i32_96 : BitVec 32 := 0#32
  let c1_i32_98 : BitVec 32 := 1#32
  let arg21 : BitVec 32 := Scf.iv c0_i32_96 c1_i32_98 k0_t15
  let c1_i32_110 : BitVec 32 := 1#32
  let v214 : BitVec 32 := Scalar.muli arg21 c1_i32_110
  let v215 : BitVec 32 := Scalar.addi c0_i32_111 v214
  let c16_i32 : BitVec 32 := 16#32
  let v216 : BitVec 32 := Scalar.muli v215 c16_i32
  let v217 : Index := Scalar.indexCast v216
  ![v217.toNat]

def k0_chk15 (v222 : IVec S16 32) : Prop :=
  (∀ a x, ((![v222] : Fin 1 → IVec S16 32) a x).toNat < S20.size a) ∧
  (∀ a x, ((![v222] : Fin 1 → IVec S16 32) a x).toNat < S20.size a)
theorem k0_idx29_inb : ∀ (v222 : IVec S16 32) (k0_hw15 : k0_chk15 v222), ∀ a x, ((![v222] : Fin 1 → IVec S16 32) a x).toNat < S20.size a := fun v222 k0_hw15 => k0_hw15.1
theorem k0_idx30_inb : ∀ (v222 : IVec S16 32) (k0_hw15 : k0_chk15 v222), ∀ a x, ((![v222] : Fin 1 → IVec S16 32) a x).toNat < S20.size a := fun v222 k0_hw15 => k0_hw15.2
def k0_off31 (k0_t15 : Fin k0_t15_loop.trips) : Fin 1 → Nat :=
  let c0_i32_111 : BitVec 32 := 0#32
  let c0_i32_96 : BitVec 32 := 0#32
  let c1_i32_98 : BitVec 32 := 1#32
  let arg21 : BitVec 32 := Scf.iv c0_i32_96 c1_i32_98 k0_t15
  let c1_i32_110 : BitVec 32 := 1#32
  let v214 : BitVec 32 := Scalar.muli arg21 c1_i32_110
  let v215 : BitVec 32 := Scalar.addi c0_i32_111 v214
  let c16_i32_112 : BitVec 32 := 16#32
  let v227 : BitVec 32 := Scalar.muli v215 c16_i32_112
  let v228 : Index := Scalar.indexCast v227
  ![v228.toNat]
@[reducible] def k0_t16_loop : Scf.Loop 32 :=
  let c0_i32_103 : BitVec 32 := 0#32
  let c1024_i32_104 : BitVec 32 := 1024#32
  let v204 : BitVec 32 := Scalar.addi c0_i32_103 c1024_i32_104
  let c1_i32_105 : BitVec 32 := 1#32
  ⟨c0_i32_103, v204, c1_i32_105⟩
def k0_off32 (k0_t16 : Fin k0_t16_loop.trips) : Fin 1 → Nat :=
  let c0_i32_111 : BitVec 32 := 0#32
  let c0_i32_103 : BitVec 32 := 0#32
  let c1_i32_105 : BitVec 32 := 1#32
  let arg21 : BitVec 32 := Scf.iv c0_i32_103 c1_i32_105 k0_t16
  let c1_i32_110 : BitVec 32 := 1#32
  let v214 : BitVec 32 := Scalar.muli arg21 c1_i32_110
  let v215 : BitVec 32 := Scalar.addi c0_i32_111 v214
  let c16_i32 : BitVec 32 := 16#32
  let v216 : BitVec 32 := Scalar.muli v215 c16_i32
  let v217 : Index := Scalar.indexCast v216
  ![v217.toNat]

def k0_chk16 (v222 : IVec S16 32) : Prop :=
  (∀ a x, ((![v222] : Fin 1 → IVec S16 32) a x).toNat < S20.size a) ∧
  (∀ a x, ((![v222] : Fin 1 → IVec S16 32) a x).toNat < S20.size a)
theorem k0_idx31_inb : ∀ (v222 : IVec S16 32) (k0_hw16 : k0_chk16 v222), ∀ a x, ((![v222] : Fin 1 → IVec S16 32) a x).toNat < S20.size a := fun v222 k0_hw16 => k0_hw16.1
theorem k0_idx32_inb : ∀ (v222 : IVec S16 32) (k0_hw16 : k0_chk16 v222), ∀ a x, ((![v222] : Fin 1 → IVec S16 32) a x).toNat < S20.size a := fun v222 k0_hw16 => k0_hw16.2
def k0_off33 (k0_t16 : Fin k0_t16_loop.trips) : Fin 1 → Nat :=
  let c0_i32_111 : BitVec 32 := 0#32
  let c0_i32_103 : BitVec 32 := 0#32
  let c1_i32_105 : BitVec 32 := 1#32
  let arg21 : BitVec 32 := Scf.iv c0_i32_103 c1_i32_105 k0_t16
  let c1_i32_110 : BitVec 32 := 1#32
  let v214 : BitVec 32 := Scalar.muli arg21 c1_i32_110
  let v215 : BitVec 32 := Scalar.addi c0_i32_111 v214
  let c16_i32_112 : BitVec 32 := 16#32
  let v227 : BitVec 32 := Scalar.muli v215 c16_i32_112
  let v228 : Index := Scalar.indexCast v227
  ![v228.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8388608x1 : Shape := ⟨2, ![8388608, 1]⟩
abbrev S21 : Shape := ⟨1, ![21]⟩
abbrev S8388608 : Shape := ⟨1, ![8388608]⟩
abbrev S1 : Shape := ⟨1, ![1]⟩
abbrev S_ : Shape := ⟨0, ![]⟩
abbrev S1x21 : Shape := ⟨2, ![1, 21]⟩
abbrev S8388608x21 : Shape := ⟨2, ![8388608, 21]⟩
abbrev S1x1 : Shape := ⟨2, ![1, 1]⟩

abbrev nBuf : Space → Nat
  | .hbm => 131
  | .vmem => 0
  | .smem => 0
  | _ => 0

abbrev hbmTy0_0 (i : Nat) : BufTy := match i % 128 with
  | 0 => ⟨S8388608x1, .f32⟩
  | 1 => ⟨S21, .f32⟩
  | 2 => ⟨S21, .f32⟩
  | 3 => ⟨S8388608, .f32⟩
  | 4 => ⟨S1, .f32⟩
  | 5 => ⟨S_, .f32⟩
  | 6 => ⟨S1, .f32⟩
  | 7 => ⟨S_, .f32⟩
  | 8 => ⟨S8388608, .f32⟩
  | 9 => ⟨S8388608, .f32⟩
  | 10 => ⟨S8388608, .f32⟩
  | 11 => ⟨S8388608, .f32⟩
  | 12 => ⟨S1x21, .f32⟩
  | 13 => ⟨S8388608x1, .f32⟩
  | 14 => ⟨S8388608x21, .f32⟩
  | 15 => ⟨S8388608x21, .f32⟩
  | 16 => ⟨S8388608x21, .i1⟩
  | 17 => ⟨S8388608x21, .i32⟩
  | 18 => ⟨S_, .i32⟩
  | 19 => ⟨S8388608, .i32⟩
  | 20 => ⟨S_, .i32⟩
  | 21 => ⟨S8388608, .i32⟩
  | 22 => ⟨S8388608, .i32⟩
  | 23 => ⟨S_, .i32⟩
  | 24 => ⟨S_, .i32⟩
  | 25 => ⟨S_, .i32⟩
  | 26 => ⟨S8388608, .i32⟩
  | 27 => ⟨S8388608, .i32⟩
  | 28 => ⟨S_, .i32⟩
  | 29 => ⟨S8388608, .i32⟩
  | 30 => ⟨S8388608, .i32⟩
  | 31 => ⟨S_, .i32⟩
  | 32 => ⟨S8388608, .i32⟩
  | 33 => ⟨S8388608, .i1⟩
  | 34 => ⟨S_, .i32⟩
  | 35 => ⟨S8388608, .i32⟩
  | 36 => ⟨S8388608, .i32⟩
  | 37 => ⟨S8388608, .i32⟩
  | 38 => ⟨S8388608x1, .i32⟩
  | 39 => ⟨S1, .i32⟩
  | 40 => ⟨S_, .i32⟩
  | 41 => ⟨S8388608x1, .i32⟩
  | 42 => ⟨S8388608x1, .i1⟩
  | 43 => ⟨S1x1, .i32⟩
  | 44 => ⟨S8388608x1, .i32⟩
  | 45 => ⟨S8388608x1, .i1⟩
  | 46 => ⟨S8388608x1, .i1⟩
  | 47 => ⟨S_, .i1⟩
  | 48 => ⟨S8388608, .i1⟩
  | 49 => ⟨S8388608, .f32⟩
  | 50 => ⟨S_, .f32⟩
  | 51 => ⟨S8388608, .f32⟩
  | 52 => ⟨S8388608, .f32⟩
  | 53 => ⟨S_, .i32⟩
  | 54 => ⟨S8388608, .i32⟩
  | 55 => ⟨S8388608, .i32⟩
  | 56 => ⟨S_, .i32⟩
  | 57 => ⟨S8388608, .i32⟩
  | 58 => ⟨S8388608, .i1⟩
  | 59 => ⟨S_, .i32⟩
  | 60 => ⟨S8388608, .i32⟩
  | 61 => ⟨S8388608, .i32⟩
  | 62 => ⟨S8388608, .i32⟩
  | 63 => ⟨S8388608x1, .i32⟩
  | 64 => ⟨S1, .i32⟩
  | 65 => ⟨S_, .i32⟩
  | 66 => ⟨S8388608x1, .i32⟩
  | 67 => ⟨S8388608x1, .i1⟩
  | 68 => ⟨S1x1, .i32⟩
  | 69 => ⟨S8388608x1, .i32⟩
  | 70 => ⟨S8388608x1, .i1⟩
  | 71 => ⟨S8388608x1, .i1⟩
  | 72 => ⟨S_, .i1⟩
  | 73 => ⟨S8388608, .i1⟩
  | 74 => ⟨S8388608, .f32⟩
  | 75 => ⟨S_, .f32⟩
  | 76 => ⟨S8388608, .f32⟩
  | 77 => ⟨S8388608, .f32⟩
  | 78 => ⟨S_, .i32⟩
  | 79 => ⟨S8388608, .i32⟩
  | 80 => ⟨S8388608, .i1⟩
  | 81 => ⟨S_, .i32⟩
  | 82 => ⟨S8388608, .i32⟩
  | 83 => ⟨S8388608, .i32⟩
  | 84 => ⟨S8388608, .i32⟩
  | 85 => ⟨S8388608x1, .i32⟩
  | 86 => ⟨S1, .i32⟩
  | 87 => ⟨S_, .i32⟩
  | 88 => ⟨S8388608x1, .i32⟩
  | 89 => ⟨S8388608x1, .i1⟩
  | 90 => ⟨S1x1, .i32⟩
  | 91 => ⟨S8388608x1, .i32⟩
  | 92 => ⟨S8388608x1, .i1⟩
  | 93 => ⟨S8388608x1, .i1⟩
  | 94 => ⟨S_, .i1⟩
  | 95 => ⟨S8388608, .i1⟩
  | 96 => ⟨S8388608, .f32⟩
  | 97 => ⟨S_, .f32⟩
  | 98 => ⟨S8388608, .f32⟩
  | 99 => ⟨S8388608, .f32⟩
  | 100 => ⟨S_, .i32⟩
  | 101 => ⟨S8388608, .i32⟩
  | 102 => ⟨S8388608, .i32⟩
  | 103 => ⟨S_, .i32⟩
  | 104 => ⟨S8388608, .i32⟩
  | 105 => ⟨S8388608, .i1⟩
  | 106 => ⟨S_, .i32⟩
  | 107 => ⟨S8388608, .i32⟩
  | 108 => ⟨S8388608, .i32⟩
  | 109 => ⟨S8388608, .i32⟩
  | 110 => ⟨S8388608x1, .i32⟩
  | 111 => ⟨S1, .i32⟩
  | 112 => ⟨S_, .i32⟩
  | 113 => ⟨S8388608x1, .i32⟩
  | 114 => ⟨S8388608x1, .i1⟩
  | 115 => ⟨S1x1, .i32⟩
  | 116 => ⟨S8388608x1, .i32⟩
  | 117 => ⟨S8388608x1, .i1⟩
  | 118 => ⟨S8388608x1, .i1⟩
  | 119 => ⟨S_, .i1⟩
  | 120 => ⟨S8388608, .i1⟩
  | 121 => ⟨S8388608, .f32⟩
  | 122 => ⟨S_, .f32⟩
  | 123 => ⟨S8388608, .f32⟩
  | 124 => ⟨S8388608, .f32⟩
  | 125 => ⟨S8388608, .f32⟩
  | 126 => ⟨S8388608, .f32⟩
  | 127 => ⟨S8388608, .f32⟩
  | _ => ⟨S8388608x1, .f32⟩

abbrev hbmTy0_1 (i : Nat) : BufTy := match i % 128 with
  | 0 => ⟨S8388608, .f32⟩
  | 1 => ⟨S8388608, .f32⟩
  | 2 => ⟨S8388608, .f32⟩
  | _ => ⟨S8388608x1, .f32⟩

abbrev hbmTy (i : Nat) : BufTy := match i / 128 with
  | 0 => hbmTy0_0 i
  | 1 => hbmTy0_1 i
  | _ => ⟨S8388608x1, .f32⟩

abbrev bufTy : (tb : Table) → Fin (tcTables nBuf tb) → BufTy
  | .hbm, ⟨i, _⟩ => hbmTy i
  | _, _ => ⟨S8388608x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_c_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v15 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_cst : Ref sig .tc := ⟨.hbm, 50, rfl⟩
abbrev main_call2_v14 : Ref sig .tc := ⟨.hbm, 51, rfl⟩
abbrev main_v16 : Ref sig .tc := ⟨.hbm, 52, rfl⟩
abbrev main_c_3 : Ref sig .tc := ⟨.hbm, 53, rfl⟩
abbrev main_v17 : Ref sig .tc := ⟨.hbm, 54, rfl⟩
abbrev main_v18 : Ref sig .tc := ⟨.hbm, 55, rfl⟩
abbrev main_call3_c : Ref sig .tc := ⟨.hbm, 56, rfl⟩
abbrev main_call3_v0 : Ref sig .tc := ⟨.hbm, 57, rfl⟩
abbrev main_call3_v1 : Ref sig .tc := ⟨.hbm, 58, rfl⟩
abbrev main_call3_c_0 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_c_1 : Ref sig .tc := ⟨.hbm, 64, rfl⟩
abbrev main_call3_c_2 : Ref sig .tc := ⟨.hbm, 65, rfl⟩
abbrev main_call3_v6 : Ref sig .tc := ⟨.hbm, 66, rfl⟩
abbrev main_call3_v7 : Ref sig .tc := ⟨.hbm, 67, rfl⟩
abbrev main_call3_v8 : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_c_3 : Ref sig .tc := ⟨.hbm, 72, rfl⟩
abbrev main_call3_v12 : Ref sig .tc := ⟨.hbm, 73, rfl⟩
abbrev main_call3_v13 : Ref sig .tc := ⟨.hbm, 74, rfl⟩
abbrev main_call3_cst : Ref sig .tc := ⟨.hbm, 75, rfl⟩
abbrev main_call3_v14 : Ref sig .tc := ⟨.hbm, 76, rfl⟩
abbrev main_v19 : Ref sig .tc := ⟨.hbm, 77, rfl⟩
abbrev main_call4_c : Ref sig .tc := ⟨.hbm, 78, rfl⟩
abbrev main_call4_v0 : Ref sig .tc := ⟨.hbm, 79, rfl⟩
abbrev main_call4_v1 : Ref sig .tc := ⟨.hbm, 80, rfl⟩
abbrev main_call4_c_0 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_v5 : Ref sig .tc := ⟨.hbm, 85, rfl⟩
abbrev main_call4_c_1 : Ref sig .tc := ⟨.hbm, 86, rfl⟩
abbrev main_call4_c_2 : Ref sig .tc := ⟨.hbm, 87, rfl⟩
abbrev main_call4_v6 : Ref sig .tc := ⟨.hbm, 88, rfl⟩
abbrev main_call4_v7 : Ref sig .tc := ⟨.hbm, 89, rfl⟩
abbrev main_call4_v8 : Ref sig .tc := ⟨.hbm, 90, rfl⟩
abbrev main_call4_v9 : Ref sig .tc := ⟨.hbm, 91, rfl⟩
abbrev main_call4_v10 : Ref sig .tc := ⟨.hbm, 92, rfl⟩
abbrev main_call4_v11 : Ref sig .tc := ⟨.hbm, 93, rfl⟩
abbrev main_call4_c_3 : Ref sig .tc := ⟨.hbm, 94, rfl⟩
abbrev main_call4_v12 : Ref sig .tc := ⟨.hbm, 95, rfl⟩
abbrev main_call4_v13 : Ref sig .tc := ⟨.hbm, 96, rfl⟩
abbrev main_call4_cst : Ref sig .tc := ⟨.hbm, 97, rfl⟩
abbrev main_call4_v14 : Ref sig .tc := ⟨.hbm, 98, rfl⟩
abbrev main_v20 : Ref sig .tc := ⟨.hbm, 99, rfl⟩
abbrev main_c_4 : Ref sig .tc := ⟨.hbm, 100, rfl⟩
abbrev main_v21 : Ref sig .tc := ⟨.hbm, 101, rfl⟩
abbrev main_v22 : Ref sig .tc := ⟨.hbm, 102, rfl⟩
abbrev main_call5_c : Ref sig .tc := ⟨.hbm, 103, rfl⟩
abbrev main_call5_v0 : Ref sig .tc := ⟨.hbm, 104, rfl⟩
abbrev main_call5_v1 : Ref sig .tc := ⟨.hbm, 105, rfl⟩
abbrev main_call5_c_0 : Ref sig .tc := ⟨.hbm, 106, rfl⟩
abbrev main_call5_v2 : Ref sig .tc := ⟨.hbm, 107, rfl⟩
abbrev main_call5_v3 : Ref sig .tc := ⟨.hbm, 108, rfl⟩
abbrev main_call5_v4 : Ref sig .tc := ⟨.hbm, 109, rfl⟩
abbrev main_call5_v5 : Ref sig .tc := ⟨.hbm, 110, rfl⟩
abbrev main_call5_c_1 : Ref sig .tc := ⟨.hbm, 111, rfl⟩
abbrev main_call5_c_2 : Ref sig .tc := ⟨.hbm, 112, rfl⟩
abbrev main_call5_v6 : Ref sig .tc := ⟨.hbm, 113, rfl⟩
abbrev main_call5_v7 : Ref sig .tc := ⟨.hbm, 114, rfl⟩
abbrev main_call5_v8 : Ref sig .tc := ⟨.hbm, 115, rfl⟩
abbrev main_call5_v9 : Ref sig .tc := ⟨.hbm, 116, rfl⟩
abbrev main_call5_v10 : Ref sig .tc := ⟨.hbm, 117, rfl⟩
abbrev main_call5_v11 : Ref sig .tc := ⟨.hbm, 118, rfl⟩
abbrev main_call5_c_3 : Ref sig .tc := ⟨.hbm, 119, rfl⟩
abbrev main_call5_v12 : Ref sig .tc := ⟨.hbm, 120, rfl⟩
abbrev main_call5_v13 : Ref sig .tc := ⟨.hbm, 121, rfl⟩
abbrev main_call5_cst : Ref sig .tc := ⟨.hbm, 122, rfl⟩
abbrev main_call5_v14 : Ref sig .tc := ⟨.hbm, 123, rfl⟩
abbrev main_v23 : Ref sig .tc := ⟨.hbm, 124, rfl⟩
abbrev main_v24 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_v28 : Ref sig .tc := ⟨.hbm, 129, rfl⟩
abbrev main_v29 : Ref sig .tc := ⟨.hbm, 130, rfl⟩

abbrev nD : Nat := 1
abbrev τ : Topo := Topo.v7x

variable {F : FTy → Type} [FloatOps F]
-- ==== Proof.Setup.lean ====
/-
  The names the proof modules of the interpolation kernel share: the program as the launch theorem sees it, its resource
  algebra, the memrefs a tile works on, and the value of one query, over any float values `F`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.KernelIdeal
public import proofs.«01_k».proof.Proof.Gen.KernelIdeal.Skeleton

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds library, beside the transfers' counters. -/
abbrev UH : Type := URounds (GSem nD τ sig) ℕ
abbrev UU : Type := UH × Counters

/-! ## The value of one query -/

variable [FloatOps F]

/-- The segment a query names: its scaled value rounded toward zero, at most 19. -/
def seg (s t x : F .f32) : BitVec 32 :=
  IntOp.minsi (FloatOps.fptosi 32 (FloatOps.addf (FloatOps.mulf x s) t)) 19#32

/-- A word as an index of a table of twenty. -/
def tblIx (w : BitVec 32) : S20.Idx := fun a => match a with | ⟨0, _⟩ => ⟨w.toNat % 20, Nat.mod_lt _ (by decide)⟩

/-- The value at a query: its segment's intercept plus the query times the segment's slope. -/
def val (a b : S20.Idx → F .f32) (s t x : F .f32) : F .f32 :=
  FloatOps.addf (a (tblIx (seg s t x))) (FloatOps.mulf x (b (tblIx (seg s t x))))

end Cert.Proof.Tile

end
-- ==== Proof.Loop.lean ====
/-
  One chunk's compute loop: 1024 trips, each of which loads sixteen queries from the chunk's input buffer, finds their
  segments, gathers the segments' intercepts and slopes from the two tables and stores the sixteen values into the output
  buffer. After the loop the output buffer holds `val` of every query of the input buffer.
-/
module

public import proofs.«01_k».proof.Proof.Setup

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- Memrefs of a tile's memory: a chunk's buffer, a table. -/
abbrev Chunk := Memref sig .scVector .vmem S16384 .f32
abbrev Table := Memref sig .scVector .vmem S20 .f32

/-- The first `n` elements of the output buffer hold the values at the first `n` queries. -/
def Done (a b : S20.Idx → F .f32) (s t : F .f32) (x o : S16384.Idx → F .f32) (n : Nat) : Prop :=
  ∀ y : S16384.Idx, (y 0).val < n → o y = val a b s t (x y)

theorem tblIx_val (w : BitVec 32) (h : w.toNat < 20) (a : Fin S20.rank) : (tblIx w a).val = w.toNat := by
  match a with
  | ⟨0, _⟩ => exact Nat.mod_eq_of_lt h

theorem loadIdx_tbl (f : S20.Idx → F .f32) (w : IVec S16 32)
    (h : ∀ a x, ((![w] : Fin 1 → IVec S16 32) a x).toNat < S20.size a) (l : S16.Idx) :
    loadIdx (F := F) (s := S20) (e := .f32) (t := S16) f ![w] h l = f (tblIx (w l)) := by
  unfold loadIdx
  congr 1
  funext a
  exact Fin.ext ((tblIx_val (w l) (h 0 l) a).symm ▸ (by match a with | ⟨0, _⟩ => rfl))

/-- A trip's lanes: sixteen consecutive elements from `16 k`. -/
abbrev lanes (k : Fin k0_t1_loop.trips) : Rect S16384 := Rect.unit (s := S16384) (k0_off2 k) S16.size (k0_off2_inb k)
abbrev lanes' (k : Fin k0_t1_loop.trips) : Rect S16384 := Rect.unit (s := S16384) (k0_off3 k) S16.size (k0_off3_inb k)

theorem lanes_emb (k : Fin k0_t1_loop.trips) (l : S16.Idx) : ((lanes k).emb l 0).val = 16 * k.val + (l 0).val := by
  show k0_off2 k 0 + 1 * (l 0).val = _
  rw [k0_off2_eq]; simp
theorem lanes_eq (k : Fin k0_t1_loop.trips) : lanes' k = lanes k := by
  unfold lanes lanes'
  congr 1

theorem lanes_emb_eq (k : Fin k0_t1_loop.trips) (l : S16.Idx) : (lanes' k).emb l = (lanes k).emb l := by
  funext a
  match a with
  | ⟨0, _⟩ =>
    refine Fin.ext ?_
    show k0_off3 k 0 + 1 * (l 0).val = k0_off2 k 0 + 1 * (l 0).val
    rw [k0_off2_eq, k0_off3_eq]

theorem done_succ {a b : S20.Idx → F .f32} {s t : F .f32} {x o o' : S16384.Idx → F .f32} {k : Fin k0_t1_loop.trips}
    (h : Done a b s t x o (16 * k.val))
    (hit : ∀ l : S16.Idx, o' ((lanes' k).emb l) = val a b s t (x ((lanes k).emb l)))
    (miss : ∀ y, y ∉ (lanes' k).set → o' y = o y) : Done a b s t x o' (16 * (k.val + 1)) := by
  intro y hy
  by_cases hm : y ∈ (lanes' k).set
  · obtain ⟨l, rfl⟩ := (lanes' k).exists_idx_of_mem hm
    refine (hit l).trans ?_
    exact congrArg (fun y => val a b s t (x y)) (lanes_emb_eq k l).symm
  · rw [miss y hm]
    refine h y ?_
    by_contra hlt
    refine hm ?_
    rw [lanes_eq]
    have hl : (y 0).val - 16 * k.val < 16 := by omega
    have e : (lanes k).emb (fun a => match a with | ⟨0, _⟩ => ⟨(y 0).val - 16 * k.val, hl⟩ : S16.Idx) = y := by
      funext a
      match a with
      | ⟨0, _⟩ =>
        refine Fin.ext ?_
        refine (lanes_emb k _).trans ?_
        show 16 * k.val + ((y 0).val - 16 * k.val) = (y 0).val
        omega
    rw [← e]
    exact (lanes k).idx_mem _

variable (d : Dev nD) (L : grid0.Coords)

/-- The loop's invariant: the two tables and the input buffer as they are, the output buffer's first `16 k` elements the
    values at the first `16 k` queries. -/
def loopI (src dst : Chunk) (ta tb : Table) (fx : Buf (Elt F) (src.view.loc (thr d L)))
    (fa : Buf (Elt F) (ta.view.loc (thr d L))) (fb : Buf (Elt F) (tb.view.loc (thr d L))) (s t : F .f32) (k : Nat) (_ : Unit) : sProp 𝕄 :=
  iprop((src.view.loc (thr d L) ↦{fullShare} fx) ∗ (ta.view.loc (thr d L) ↦{fullShare} fa) ∗ (tb.view.loc (thr d L) ↦{fullShare} fb)
    ∗ ∃ fo : Buf (Elt F) (dst.view.loc (thr d L)),
        ⌜Done (ta.view.read (Elt F) fa) (tb.view.read (Elt F) fb) s t (src.view.read (Elt F) fx) (dst.view.read (Elt F) fo) (16 * k)⌝
        ∗ (dst.view.loc (thr d L) ↦{fullShare} fo))

theorem read_whole_access (m : Table) (f : m.view.ty.Contents (Elt F)) :
    (m.access (.whole S20)).read (Elt F) f = m.view.read (Elt F) f := by
  funext x
  show m.view.read (Elt F) f ((Rect.whole S20).emb x) = _
  rw [Rect.emb_whole_apply]

/-- Every query of the input buffer names one of the twenty segments. -/
def Named (s t : F .f32) (x : S16384.Idx → F .f32) : Prop := ∀ y, (seg s t (x y)).toNat < 20

set_option maxHeartbeats 4000000 in
/-- One trip takes the invariant at `k` to the invariant at `k + 1`. -/
theorem trip_step {src dst : Chunk} {ta tb : Table} {m2 h2 m3 h3 m4 h4 m5 h5 m6 h6 h7 m8 h8 h9 m10 h10 h11 h12 m13 h13 s14 s15 s16 s17 s18 s19 s20}
    (fx : Buf (Elt F) (src.view.loc (thr d L)))
    (fa : Buf (Elt F) (ta.view.loc (thr d L))) (fb : Buf (Elt F) (tb.view.loc (thr d L))) (s t : F .f32)
    (v6 v7 : Vec F S16 .f32) (h6' : v6 = fun _ => s) (h7' : v7 = fun _ => t)
    (hN : Named s t (src.view.read (Elt F) fx)) (k : Fin k0_t1_loop.trips) (acc : Unit) :
    loopI d L src dst ta tb fx fa fb s t k.val acc
      ⊢ wp frame (wpE (defs₀ (F := F)) 𝒱₀ (thr d L) none) Set.univ
          (k0_t1_body (F := F) L m2 h2 m3 h3 m4 h4 m5 h5 m6 h6 src h7 m8 h8 dst h9 m10 h10 ta h11 tb h12 m13 h13 s14 s15 s16 s17 s18 s19 s20 v6 v7 k acc)
          (loopI d L src dst ta tb fx fa fb s t (k.val + 1)) := by
  subst h6' h7'
  unfold k0_t1_body loopI
  iintro ⟨Hx, Ha, Hb, ⟨%fo, %hD, Ho⟩⟩
  iapply (wp_load 𝒱₀ (thr d L) none Set.univ (m := src) (S := Finset.univ) (Finset.subset_univ _)) $$ Hx
  iintro Hx
  have hc : k0_chk1 (k0_pay2 (F := F) (fun _ => s) (fun _ => t) (src.view.readAt (Elt F) (lanes k).toLoadRect fx)) := by
    have h : ∀ a x, ((![k0_pay2 (F := F) (fun _ => s) (fun _ => t) (src.view.readAt (Elt F) (lanes k).toLoadRect fx)] : Fin 1 → IVec S16 32) a x).toNat < S20.size a := by
      intro a x
      match a with
      | ⟨0, _⟩ => exact hN ((lanes k).emb x)
    exact ⟨h, h⟩
  iapply (wp_assume 𝒱₀ (thr d L) none Set.univ hc)
  iapply (SparseCore.wp_vectorLoadIdx 𝒱₀ (thr d L) none Set.univ (base := ta) (hl := View.loads_vmem h_S20) (h := k0_idx1_inb _ hc) (S := Finset.univ) (q := fullShare) (Finset.subset_univ _)) $$ Ha
  iintro Ha
  iapply (SparseCore.wp_vectorLoadIdx 𝒱₀ (thr d L) none Set.univ (base := tb) (hl := View.loads_vmem h_S20) (h := k0_idx2_inb _ hc) (S := Finset.univ) (q := fullShare) (Finset.subset_univ _)) $$ Hb
  iintro Hb
  iapply (wp_load 𝒱₀ (thr d L) none Set.univ (m := dst) (S := Finset.univ) (Finset.subset_univ _)) $$ Ho
  iintro Ho
  iapply (wp_store 𝒱₀ (thr d L) none Set.univ (m := dst) (r := lanes' k) (Mk := Finset.univ) (S := Finset.univ) (Finset.subset_univ _)) $$ Ho
  iintro Ho
  simp only [Prog.bind, wp_pure]
  imodintro
  isplitl [Hx]; · iexact Hx
  isplitl [Ha]; · iexact Ha
  isplitl [Hb]; · iexact Hb
  iexists _
  isplitr
  rotate_left
  · iexact Ho
  ipureintro
  refine done_succ hD ?_ ?_
  · intro l
    refine (View.read_slice_write_emb _ _ _ (Finset.mem_univ _)).trans ?_
    refine Eq.trans (congrArg₂ (fun p q => FloatOps.addf p (FloatOps.mulf (src.view.read (Elt F) fx ((lanes k).emb l)) q))
      (loadIdx_tbl _ _ (k0_idx1_inb _ hc) l) (loadIdx_tbl _ _ (k0_idx2_inb _ hc) l)) ?_
    rw [read_whole_access, read_whole_access]
    rfl
  · intro y hy
    exact View.read_slice_write_of_not_mem _ _ _ _ (by rw [Rect.map_emb_univ]; exact hy )

theorem trips_eq : k0_t1_loop.trips = 1024 := by decide

set_option maxHeartbeats 4000000 in
/-- The whole loop at the head of a program `p >>= kk`, `p` any spelling of the loop: it continues with the output buffer
    at the values of the input buffer's queries, everything else as it was. -/
theorem loop_run {src dst : Chunk} {ta tb : Table} {m2 h2 m3 h3 m4 h4 m5 h5 m6 h6 h7 m8 h8 h9 m10 h10 h11 h12 m13 h13 s14 s15 s16 s17 s18 s19 s20}
    {fx : Buf (Elt F) (src.view.loc (thr d L))} {fo : Buf (Elt F) (dst.view.loc (thr d L))}
    {fa : Buf (Elt F) (ta.view.loc (thr d L))} {fb : Buf (Elt F) (tb.view.loc (thr d L))} (s t : F .f32)
    {v6 v7 : Vec F S16 .f32} (h6' : v6 = fun _ => s) (h7' : v7 = fun _ => t)
    (hN : Named s t (src.view.read (Elt F) fx))
    {p : Prog (TpuEff nD τ sig (Elt F) Λ₀ (.scVector (cV L) (jV L))) Unit}
    (hp : p = Scf.Loop.for k0_t1_loop k0_t1_ok ⟨⟩
      (k0_t1_body (F := F) L m2 h2 m3 h3 m4 h4 m5 h5 m6 h6 src h7 m8 h8 dst h9 m10 h10 ta h11 tb h12 m13 h13 s14 s15 s16 s17 s18 s19 s20 v6 v7))
    {β : Type} {kk : Unit → Prog (TpuEff nD τ sig (Elt F) Λ₀ (.scVector (cV L) (jV L))) β} {Q : β → sProp 𝕄} :
    iprop((src.view.loc (thr d L) ↦{fullShare} fx) ∗ (ta.view.loc (thr d L) ↦{fullShare} fa) ∗ (tb.view.loc (thr d L) ↦{fullShare} fb)
        ∗ (dst.view.loc (thr d L) ↦{fullShare} fo))
      ⊢ iprop((∀ g : Buf (Elt F) (dst.view.loc (thr d L)),
            ⌜∀ y, dst.view.read (Elt F) g y = val (ta.view.read (Elt F) fa) (tb.view.read (Elt F) fb) s t (src.view.read (Elt F) fx y)⌝
            -∗ ((src.view.loc (thr d L) ↦{fullShare} fx) ∗ (ta.view.loc (thr d L) ↦{fullShare} fa) ∗ (tb.view.loc (thr d L) ↦{fullShare} fb)
              ∗ (dst.view.loc (thr d L) ↦{fullShare} g))
            -∗ wp frame (wpE (defs₀ (F := F)) 𝒱₀ (thr d L) none) Set.univ (kk ⟨⟩) Q)
          -∗ wp frame (wpE (defs₀ (F := F)) 𝒱₀ (thr d L) none) Set.univ (p >>= kk) Q) := by
  subst hp
  iintro ⟨Hx, Ha, Hb, Ho⟩ Hk
  iapply (Scf.wp_for_bind frame (wpE (defs₀ (F := F)) 𝒱₀ (thr d L) none) Set.univ _ _ _ k0_t1_ok ⟨⟩ _
      (loopI d L src dst ta tb fx fa fb s t)
      (trip_step d L fx fa fb s t v6 v7 h6' h7' hN)) $$ [Hx Ha Hb Ho]
  · unfold loopI
    isplitl [Hx]; · iexact Hx
    isplitl [Ha]; · iexact Ha
    isplitl [Hb]; · iexact Hb
    iexists fo
    isplitr
    · ipureintro
      intro y hy
      exact absurd hy (by omega)
    · iexact Ho
  iintro %acc HI
  unfold loopI
  icases HI with ⟨Hx, Ha, Hb, ⟨%g, %hD, Ho⟩⟩
  iapply Hk $$ %g
  · ipureintro
    intro y
    refine hD y ?_
    have e : 16 * k0_t1_loop.trips = 16384 := by rw [trips_eq]
    exact lt_of_lt_of_eq (y 0).isLt e.symm
  isplitl [Hx]; · iexact Hx
  isplitl [Ha]; · iexact Ha
  isplitl [Hb]; · iexact Hb
  iexact Ho

end Cert.Proof.Tile

end
-- ==== Proof.Tile.lean ====
/-
  One tile's task: sixteen chunks of 16384 queries, fetched two ahead into the two input buffers, computed by the loop of
  Loop.lean and copied out from the two output buffers. Started with its pieces of the queries and of the result, a read
  share of each table, its scratch and its counters at zero, the task ends with its pieces of the result at the values of
  the queries, everything else back.
-/
module

public import proofs.«01_k».proof.Proof.Loop

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Separating a list of members out of a big separating conjunction -/

theorem bigSep_list {ι : Type} [DecidableEq ι] {M : Type} [URA M] (Φ : ι → sProp M) :
    ∀ (l : List ι) (s : Finset ι), l.Nodup → (∀ a ∈ l, a ∈ s) →
      bigSep s Φ = l.foldr (fun a R => iprop(Φ a ∗ R)) (bigSep (s \ l.toFinset) Φ)
  | [], s, _, _ => by simp
  | a :: l, s, hn, hs => by
    have ha : a ∈ s := hs a List.mem_cons_self
    have hal : a ∉ l := (List.nodup_cons.mp hn).1
    rw [SparseCore.bigSep_erase' ha, bigSep_list Φ l (s.erase a) (List.nodup_cons.mp hn).2
      (fun b hb => Finset.mem_erase.mpr ⟨fun e => hal (e ▸ hb), hs b (List.mem_cons_of_mem _ hb)⟩), List.foldr_cons]
    refine congrArg (fun u => iprop(Φ a ∗ l.foldr (fun a R => iprop(Φ a ∗ R)) (bigSep u Φ))) (Finset.ext fun b => ?_)
    simp only [Finset.mem_sdiff, Finset.mem_erase, List.toFinset_cons, Finset.mem_insert]
    tauto

/-! ## The arrays and buffers a tile works on -/

abbrev xLoc (d : Dev nD) : Loc nD τ sig := (SparseCore.T d).loc main_v0
abbrev aLoc (d : Dev nD) : Loc nD τ sig := (SparseCore.T d).loc main_v11
abbrev bLoc (d : Dev nD) : Loc nD τ sig := (SparseCore.T d).loc main_v7
abbrev pLoc (d : Dev nD) : Loc nD τ sig := (SparseCore.T d).loc main_v24
abbrev oLoc (d : Dev nD) : Loc nD τ sig := (SparseCore.T d).loc main_v25

local notation "xV" => (Memref.whole Cert.KernelIdeal.main_v0_scv : Memref Cert.KernelIdeal.sig Kind.scVector Space.hbm Cert.KernelIdeal.S8388608 EltTy.f32)
local notation "aV" => (Memref.whole Cert.KernelIdeal.main_v11_scv : Memref Cert.KernelIdeal.sig Kind.scVector Space.hbm Cert.KernelIdeal.S20 EltTy.f32)
local notation "bV" => (Memref.whole Cert.KernelIdeal.main_v7_scv : Memref Cert.KernelIdeal.sig Kind.scVector Space.hbm Cert.KernelIdeal.S20 EltTy.f32)
local notation "pV" => (Memref.whole Cert.KernelIdeal.main_v24_scv : Memref Cert.KernelIdeal.sig Kind.scVector Space.hbm Cert.KernelIdeal.S32 EltTy.f32)
local notation "oV" => (Memref.whole Cert.KernelIdeal.main_v25_scv : Memref Cert.KernelIdeal.sig Kind.scVector Space.hbm Cert.KernelIdeal.S8388608 EltTy.f32)
local notation "i0" => (Memref.whole Cert.KernelIdeal.cc0_scratch0 : Memref Cert.KernelIdeal.sig Kind.scVector Space.vmem Cert.KernelIdeal.S16384 EltTy.f32)
local notation "i1" => (Memref.whole Cert.KernelIdeal.cc0_scratch1 : Memref Cert.KernelIdeal.sig Kind.scVector Space.vmem Cert.KernelIdeal.S16384 EltTy.f32)
local notation "o0" => (Memref.whole Cert.KernelIdeal.cc0_scratch2 : Memref Cert.KernelIdeal.sig Kind.scVector Space.vmem Cert.KernelIdeal.S16384 EltTy.f32)
local notation "o1" => (Memref.whole Cert.KernelIdeal.cc0_scratch3 : Memref Cert.KernelIdeal.sig Kind.scVector Space.vmem Cert.KernelIdeal.S16384 EltTy.f32)
local notation "sa" => (Memref.whole Cert.KernelIdeal.cc0_scratch4 : Memref Cert.KernelIdeal.sig Kind.scVector Space.vmem Cert.KernelIdeal.S20 EltTy.f32)
local notation "sb" => (Memref.whole Cert.KernelIdeal.cc0_scratch5 : Memref Cert.KernelIdeal.sig Kind.scVector Space.vmem Cert.KernelIdeal.S20 EltTy.f32)
local notation "sp" => (Memref.whole Cert.KernelIdeal.cc0_scratch6 : Memref Cert.KernelIdeal.sig Kind.scVector Space.vmem Cert.KernelIdeal.S32 EltTy.f32)

variable (d : Dev nD) (L : grid0.Coords)

/-- Chunk `r` of a tile's range of the queries and of the result. -/
abbrev chunkR (r : Fin 16) : Rect S8388608 :=
  Rect.unit (s := S8388608) (k0_off1 L (BitVec.ofNat 32 (16384 * r.val))) S16384.size (k0_off1_inb L r)
abbrev xS (r : Fin 16) : Memref sig .scVector .hbm S16384 .f32 := (xV).slice (chunkR L r) (fun _ => rfl)
abbrev oS (r : Fin 16) : Memref sig .scVector .hbm S16384 .f32 := (oV).slice (chunkR L r) (fun _ => rfl)

abbrev xPts (f : Buf (Elt F) (xLoc d)) (r : Fin 16) : sProp 𝕄 := (xS L r).view.loc (thr d L) ↦[(xS L r).view.set]{fullShare} f
abbrev oPts (f : Buf (Elt F) (oLoc d)) (r : Fin 16) : sProp 𝕄 := (oS L r).view.loc (thr d L) ↦[(oS L r).view.set]{fullShare} f

abbrev cell (s : DmaSems sig S_) : GSem nD τ sig := (thr d L, .dma s.sem)

/-- The tile's own counters: its seven, and the rest. -/
theorem ownSems0_V :
    (ownSems0 (thr d L) : sProp 𝕄)
      = iprop(semVal (cell d L cc0_scratch7) 0 ∗ semVal (cell d L cc0_scratch8) 0 ∗ semVal (cell d L cc0_scratch9) 0
          ∗ semVal (cell d L cc0_scratch10) 0 ∗ semVal (cell d L cc0_scratch11) 0 ∗ semVal (cell d L cc0_scratch12) 0
          ∗ semVal (cell d L cc0_scratch13) 0
          ∗ bigSep (ownCells (thr d L) \ ([cc0_scratch7, cc0_scratch8, cc0_scratch9, cc0_scratch10, cc0_scratch11, cc0_scratch12, cc0_scratch13].map (cell d L)).toFinset)
              fun g => semVal g 0) := by
  unfold SparseCore.Cfg.ownSems0
  refine (bigSep_list _ ([cc0_scratch7, cc0_scratch8, cc0_scratch9, cc0_scratch10, cc0_scratch11, cc0_scratch12, cc0_scratch13].map (cell d L)) _ ?_ ?_).trans rfl
  · have h : ([cc0_scratch7.sem, cc0_scratch8.sem, cc0_scratch9.sem, cc0_scratch10.sem, cc0_scratch11.sem, cc0_scratch12.sem, cc0_scratch13.sem].map
        (fun s => ((thr d L, .dma s) : GSem nD τ sig))).Nodup :=
      List.Nodup.map (fun a b e => by simpa using e) (by decide)
    exact h
  · intro g hg
    obtain ⟨s, hs, rfl⟩ := List.mem_map.mp hg
    refine mem_ownCells.mpr ⟨rfl, ?_⟩
    have h : ∀ s ∈ [cc0_scratch7, cc0_scratch8, cc0_scratch9, cc0_scratch10, cc0_scratch11, cc0_scratch12, cc0_scratch13],
        (SemLoc.dma s.sem : SemLoc sig).isScoped .scVector = true := by decide
    exact h s hs

abbrev bref (b : Ref sig .scVector) : DevRef τ sig := (Proc.scVector (cV L) (jV L)).devRef b

/-- The tile's own buffers: its seven, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f)
          ∗ (∃ f, (thr d L).loc cc0_scratch6 ↦{fullShare} f)
          ∗ bigSep (ownRefs (τ := τ) (.scVector (cV L) (jV L)) \ ([cc0_scratch0, cc0_scratch1, cc0_scratch2, cc0_scratch3, cc0_scratch4, cc0_scratch5, cc0_scratch6].map (bref L)).toFinset)
              fun b => iprop(∃ f, ((d, b) : Loc nD τ sig) ↦{fullShare} f)) := by
  unfold SparseCore.Cfg.ownBufs
  refine (bigSep_list _ ([cc0_scratch0, cc0_scratch1, cc0_scratch2, cc0_scratch3, cc0_scratch4, cc0_scratch5, cc0_scratch6].map (bref L)) _ ?_ ?_).trans rfl
  · exact List.Nodup.map (fun _ _ e => Proc.devRef_injective _ e) (by decide)
  · intro g hg
    obtain ⟨b, hb, rfl⟩ := List.mem_map.mp hg
    refine SparseCore.Cfg.mem_ownRefs_of_owner (p := Proc.scVector (cV L) (jV L)) ?_
    fin_cases hb <;> rfl

/-- Chunk `r` spelt at the program's literal offset. -/
abbrev xLit (f : Buf (Elt F) (xLoc d)) (w : BitVec 32) (h : ∀ a, k0_off1 L w a + S16384.size a ≤ S8388608.size a) : sProp 𝕄 :=
  ((xV).slice (Rect.unit (s := S8388608) (k0_off1 L w) S16384.size h) (fun _ => rfl)).view.loc (thr d L)
    ↦[((xV).slice (Rect.unit (s := S8388608) (k0_off1 L w) S16384.size h) (fun _ => rfl)).view.set]{fullShare} f
abbrev oLit (f : Buf (Elt F) (oLoc d)) (w : BitVec 32) (h : ∀ a, k0_off1 L w a + S16384.size a ≤ S8388608.size a) : sProp 𝕄 :=
  ((oV).slice (Rect.unit (s := S8388608) (k0_off1 L w) S16384.size h) (fun _ => rfl)).view.loc (thr d L)
    ↦[((oV).slice (Rect.unit (s := S8388608) (k0_off1 L w) S16384.size h) (fun _ => rfl)).view.set]{fullShare} f

abbrev chunks : List (Fin 16) := [0, 1, 2, 3, 4, 5, 6, 7, 8, 9, 10, 11, 12, 13, 14, 15]

/-- The sixteen chunks of the queries, and of the result, written out. -/
theorem xPts_all (f : Buf (Elt F) (xLoc d)) :
    bigSep Finset.univ (xPts (F := F) d L f) = iprop(xLit d L f 0#32 (k0_off1_inb L 0) ∗ xLit d L f 16384#32 (k0_off1_inb L 1) ∗ xLit d L f 32768#32 (k0_off1_inb L 2) ∗ xLit d L f 49152#32 (k0_off1_inb L 3) ∗ xLit d L f 65536#32 (k0_off1_inb L 4) ∗ xLit d L f 81920#32 (k0_off1_inb L 5) ∗ xLit d L f 98304#32 (k0_off1_inb L 6) ∗ xLit d L f 114688#32 (k0_off1_inb L 7) ∗ xLit d L f 131072#32 (k0_off1_inb L 8) ∗ xLit d L f 147456#32 (k0_off1_inb L 9) ∗ xLit d L f 163840#32 (k0_off1_inb L 10) ∗ xLit d L f 180224#32 (k0_off1_inb L 11) ∗ xLit d L f 196608#32 (k0_off1_inb L 12) ∗ xLit d L f 212992#32 (k0_off1_inb L 13) ∗ xLit d L f 229376#32 (k0_off1_inb L 14) ∗ xLit d L f 245760#32 (k0_off1_inb L 15)
      ∗ bigSep (Finset.univ \ chunks.toFinset) (xPts d L f)) :=
  (bigSep_list _ chunks _ (by decide) (by decide)).trans rfl
theorem oPts_all (f : Buf (Elt F) (oLoc d)) :
    bigSep Finset.univ (oPts (F := F) d L f) = iprop(oLit d L f 0#32 (k0_off1_inb L 0) ∗ oLit d L f 16384#32 (k0_off1_inb L 1) ∗ oLit d L f 32768#32 (k0_off1_inb L 2) ∗ oLit d L f 49152#32 (k0_off1_inb L 3) ∗ oLit d L f 65536#32 (k0_off1_inb L 4) ∗ oLit d L f 81920#32 (k0_off1_inb L 5) ∗ oLit d L f 98304#32 (k0_off1_inb L 6) ∗ oLit d L f 114688#32 (k0_off1_inb L 7) ∗ oLit d L f 131072#32 (k0_off1_inb L 8) ∗ oLit d L f 147456#32 (k0_off1_inb L 9) ∗ oLit d L f 163840#32 (k0_off1_inb L 10) ∗ oLit d L f 180224#32 (k0_off1_inb L 11) ∗ oLit d L f 196608#32 (k0_off1_inb L 12) ∗ oLit d L f 212992#32 (k0_off1_inb L 13) ∗ oLit d L f 229376#32 (k0_off1_inb L 14) ∗ oLit d L f 245760#32 (k0_off1_inb L 15)
      ∗ bigSep (Finset.univ \ chunks.toFinset) (oPts d L f)) :=
  (bigSep_list _ chunks _ (by decide) (by decide)).trans rfl

variable [FloatOps F]

/-- The array of values: `val` of every query. -/
def vals (a b : S20.Idx → F .f32) (s t : F .f32) (x : S8388608.Idx → F .f32) : S8388608.Idx → F .f32 := fun z => val a b s t (x z)

/-- The scale and the offset, one repeated in the first sixteen words of the parameters, one in the last sixteen. -/
def Params (s t : F .f32) (p : S32.Idx → F .f32) : Prop := ∀ j : S32.Idx, p j = if (j 0).val < 16 then s else t

/-- A buffer overwritten as a whole reads as what was written. -/
theorem read_written {b : Ref sig .scVector} (f : b.ty.Contents (Elt F)) (w : b.ty.shape.Idx → Elt F b.ty.elt) :
    (View.whole b).read (Elt F) ((View.whole b).write (Elt F) f w Finset.univ) = w := by
  rw [View.write_whole_univ, View.read_whole]

/-- The scale, read off the parameters' first sixteen words. -/
theorem params_lo {s t : F .f32} {w : S32.Idx → F .f32} (hw : Params s t w) (f : Buf (Elt F) ((thr d L).loc cc0_scratch6)) :
    View.readAt (Elt F) (sp).view (Rect.unit (s := S32) ![0] S16.size inb_S32_S16_0).toLoadRect
      (View.write (Elt F) (sp).view f w Finset.univ) = fun _ => s := by
  funext l
  refine (congrFun (read_written (b := cc0_scratch6) f w) _).trans ((hw _).trans (if_pos ?_))
  show 0 + 1 * (l 0).val < 16
  have h : (l 0).val < 16 := (l 0).isLt
  omega

/-- The offset, read off the parameters' last sixteen words. -/
theorem params_hi {s t : F .f32} {w : S32.Idx → F .f32} (hw : Params s t w) (f : Buf (Elt F) ((thr d L).loc cc0_scratch6)) :
    View.readAt (Elt F) (sp).view (Rect.unit (s := S32) ![16] S16.size inb_S32_S16_16).toLoadRect
      (View.write (Elt F) (sp).view f w Finset.univ) = fun _ => t := by
  funext l
  refine (congrFun (read_written (b := cc0_scratch6) f w) _).trans ((hw _).trans (if_neg ?_))
  show ¬ 16 + 1 * (l 0).val < 16
  omega

/-- A loop over a chunk whose source holds the queries at the places `e`: the output buffer ends at their values. -/
theorem chunk_run {src dst : Chunk} {ta tb : Table} {m2 h2 m3 h3 m4 h4 m5 h5 m6 h6 h7 m8 h8 h9 m10 h10 h11 h12 m13 h13 s14 s15 s16 s17 s18 s19 s20}
    (e : S16384.Idx → S8388608.Idx) (x : S8388608.Idx → F .f32) (a b : S20.Idx → F .f32) (s t : F .f32)
    (hN : ∀ z : S8388608.Idx, (seg s t (x z)).toNat < 20)
    {f0 : Buf (Elt F) (src.view.loc (thr d L))} {fo : Buf (Elt F) (dst.view.loc (thr d L))}
    {fa : Buf (Elt F) (ta.view.loc (thr d L))} {fb : Buf (Elt F) (tb.view.loc (thr d L))}
    (hx : src.view.read (Elt F) f0 = fun y => x (e y)) (ha : ta.view.read (Elt F) fa = a) (hb : tb.view.read (Elt F) fb = b)
    {p : Prog (TpuEff nD τ sig (Elt F) Λ₀ (.scVector (cV L) (jV L))) Unit}
    (hp : p = Scf.Loop.for k0_t1_loop k0_t1_ok ⟨⟩
      (k0_t1_body (F := F) L m2 h2 m3 h3 m4 h4 m5 h5 m6 h6 src h7 m8 h8 dst h9 m10 h10 ta h11 tb h12 m13 h13 s14 s15 s16 s17 s18 s19 s20 (fun _ => s) (fun _ => t)))
    {β : Type} {kk : Unit → Prog (TpuEff nD τ sig (Elt F) Λ₀ (.scVector (cV L) (jV L))) β} {Q : β → sProp 𝕄} :
    iprop((src.view.loc (thr d L) ↦{fullShare} f0) ∗ (ta.view.loc (thr d L) ↦{fullShare} fa) ∗ (tb.view.loc (thr d L) ↦{fullShare} fb)
        ∗ (dst.view.loc (thr d L) ↦{fullShare} fo))
      ⊢ iprop((∀ g : Buf (Elt F) (dst.view.loc (thr d L)),
            ⌜dst.view.read (Elt F) g = fun y => vals a b s t x (e y)⌝
            -∗ ((src.view.loc (thr d L) ↦{fullShare} f0) ∗ (ta.view.loc (thr d L) ↦{fullShare} fa) ∗ (tb.view.loc (thr d L) ↦{fullShare} fb)
              ∗ (dst.view.loc (thr d L) ↦{fullShare} g))
            -∗ wp frame (wpE (defs₀ (F := F)) 𝒱₀ (thr d L) none) Set.univ (kk ⟨⟩) Q)
          -∗ wp frame (wpE (defs₀ (F := F)) 𝒱₀ (thr d L) none) Set.univ (p >>= kk) Q) := by
  have h := loop_run d L (fx := f0) (fo := fo) (fa := fa) (fb := fb) s t rfl rfl (fun y => by rw [hx]; exact hN _) hp (kk := kk) (Q := Q)
  refine h.trans ?_
  iintro Hk Hn
  iapply Hk
  iintro %g %hg
  iapply Hn $$ %g
  ipureintro
  funext y
  rw [hg y, hx, ha, hb]
  rfl

/-- The loop over an even chunk, from the first input buffer to the first output buffer. -/
abbrev evenLoop (s t : F .f32) : Prog (TpuEff nD τ sig (Elt F) Λ₀ (.scVector (cV L) (jV L))) Unit :=
  Scf.Loop.for k0_t1_loop k0_t1_ok ⟨⟩ (k0_t1_body (F := F) L xV (Memref.isWhole_whole _) aV (Memref.isWhole_whole _) bV (Memref.isWhole_whole _) pV (Memref.isWhole_whole _) oV (Memref.isWhole_whole _)
    i0 (Memref.isWhole_whole _) i1 (Memref.isWhole_whole _) o0 (Memref.isWhole_whole _) o1 (Memref.isWhole_whole _) sa (Memref.isWhole_whole _) sb (Memref.isWhole_whole _) sp (Memref.isWhole_whole _)
    cc0_scratch7 cc0_scratch8 cc0_scratch9 cc0_scratch10 cc0_scratch11 cc0_scratch12 cc0_scratch13 (fun _ => s) (fun _ => t))
/-- The loop over an odd chunk, from the second input buffer to the second output buffer. -/
abbrev oddLoop (s t : F .f32) : Prog (TpuEff nD τ sig (Elt F) Λ₀ (.scVector (cV L) (jV L))) Unit :=
  Scf.Loop.for k0_t1_loop k0_t1_ok ⟨⟩ (k0_t1_body (F := F) L xV (Memref.isWhole_whole _) aV (Memref.isWhole_whole _) bV (Memref.isWhole_whole _) pV (Memref.isWhole_whole _) oV (Memref.isWhole_whole _)
    i1 (Memref.isWhole_whole _) i0 (Memref.isWhole_whole _) o1 (Memref.isWhole_whole _) o0 (Memref.isWhole_whole _) sa (Memref.isWhole_whole _) sb (Memref.isWhole_whole _) sp (Memref.isWhole_whole _)
    cc0_scratch7 cc0_scratch8 cc0_scratch9 cc0_scratch10 cc0_scratch11 cc0_scratch12 cc0_scratch13 (fun _ => s) (fun _ => t))

/-- A chunk of the result written over with the values of its queries is the chunk of the array of values. -/
theorem out_done (a b : S20.Idx → F .f32) (s t : F .f32) (x : S8388608.Idx → F .f32) (w : BitVec 32)
    (h : ∀ a, k0_off1 L w a + S16384.size a ≤ S8388608.size a) (fo : Buf (Elt F) (oLoc d)) {v : S16384.Idx → F .f32}
    (hv : v = fun y => vals a b s t x ((Rect.unit (s := S8388608) (k0_off1 L w) S16384.size h).emb y)) :
    (oLit d L (View.writes ((oV).slice (Rect.unit (s := S8388608) (k0_off1 L w) S16384.size h) (fun _ => rfl)).view (Elt F) fo
        [⟨Rect.whole (Rect.unit (s := S8388608) (k0_off1 L w) S16384.size h).shape, v⟩]) w h : sProp 𝕄)
      ⊢ oLit d L (vals a b s t x) w h := by
  refine Entails.of_eq (pointsTo_congr fun z hz => ?_)
  obtain ⟨y, -, rfl⟩ := Finset.mem_map.mp hz
  refine (congrFun (View.write_univ_eq_writes_whole ((oV).slice (Rect.unit (s := S8388608) (k0_off1 L w) S16384.size h) (fun _ => rfl)).view fo [] v).symm _).trans ?_
  rw [View.write_emb_of_mem _ _ (Finset.mem_univ y), hv]
  rfl

/-- A wait of the task's own put on record leaves the record as the task promises it. -/
theorem waits_insert {W W' : Waits sig (HIx 1)} (s : SemLoc sig) (h : ∀ p ∈ W', p ∈ W ∨ p.2 = none) :
    ∀ p ∈ insert (s, (default : HIx 1)) W', p ∈ W ∨ p.2 = none := fun p hp =>
  (Finset.mem_insert.mp hp).elim (fun e => .inr (e ▸ rfl)) (h p)

set_option maxRecDepth 65536 in
set_option maxHeartbeats 16000000 in
theorem tile_body (hF : (K (F := F)).Facts) (q : PosShare TreeShare)
    (fx : Buf (Elt F) (xLoc d)) (fa : Buf (Elt F) (aLoc d)) (fb : Buf (Elt F) (bLoc d)) (fp : Buf (Elt F) (pLoc d)) (fo : Buf (Elt F) (oLoc d))
    (s t : F .f32) (hp : Params s t fp) (hN : ∀ z : S8388608.Idx, (seg s t (fx z)).toNat < 20)
    (O : CellTallies nD τ sig (HIx 1)) (W : Waits sig (HIx 1)) (hO : ∀ g, O g none = 0) :
    iprop(levAts (K (F := F)).L (K (F := F)).lev ∗ emp
        ∗ (bigSep Finset.univ (xPts d L fx) ∗ ((aV).view.loc (thr d L) ↦{q} fa) ∗ ((bV).view.loc (thr d L) ↦{q} fb) ∗ ((pV).view.loc (thr d L) ↦{q} fp)
          ∗ bigSep Finset.univ (oPts d L fo))
        ∗ scopedBufs (thr d L) ∗ scopedSems0 (thr d L) ∗ owes (thr d L) O W)
      ⊢ wp frame (wpE (defs₀ (F := F)) 𝒱₀ (thr d L) none) Set.univ
          (cc0_h0_map L xV (Memref.isWhole_whole _) aV (Memref.isWhole_whole _) bV (Memref.isWhole_whole _) pV (Memref.isWhole_whole _) oV (Memref.isWhole_whole _)
            i0 (Memref.isWhole_whole _) i1 (Memref.isWhole_whole _) o0 (Memref.isWhole_whole _) o1 (Memref.isWhole_whole _)
            sa (Memref.isWhole_whole _) sb (Memref.isWhole_whole _) sp (Memref.isWhole_whole _)
            cc0_scratch7 cc0_scratch8 cc0_scratch9 cc0_scratch10 cc0_scratch11 cc0_scratch12 cc0_scratch13)
          fun _ => iprop((bigSep Finset.univ (xPts d L fx) ∗ ((aV).view.loc (thr d L) ↦{q} fa) ∗ ((bV).view.loc (thr d L) ↦{q} fb) ∗ ((pV).view.loc (thr d L) ↦{q} fp)
              ∗ bigSep Finset.univ (oPts d L (vals fa fb s t fx)))
            ∗ scopedBufs (thr d L) ∗ scopedSems0 (thr d L)
            ∗ ∃ W', ⌜∀ p ∈ W', p ∈ W ∨ p.2 = none⌝ ∗ owes (thr d L) O W') := by
  simp only [cc0_h0_map_eq_skeleton]; unfold cc0_h0_map_skel
  rw [(K (F := F)).scopedBufs_V hF d (cV L) (jV L), SparseCore.Cfg.scopedSems0_V (Val := Elt F) d (cV L) (jV L), ownSems0_V, ownBufs_V,
    xPts_all, oPts_all, oPts_all]
  iintro ⟨#Hlv, -, ⟨⟨Hx0, Hx1, Hx2, Hx3, Hx4, Hx5, Hx6, Hx7, Hx8, Hx9, Hx10, Hx11, Hx12, Hx13, Hx14, Hx15, Hxr⟩, Ha, Hb, Hp,
    ⟨Ho0, Ho1, Ho2, Ho3, Ho4, Ho5, Ho6, Ho7, Ho8, Ho9, Ho10, Ho11, Ho12, Ho13, Ho14, Ho15, Hor⟩⟩,
    ⟨⟨%f0, Hi0⟩, ⟨%f1, Hi1⟩, ⟨%f2, Hd0⟩, ⟨%f3, Hd1⟩, ⟨%f4, Hsa⟩, ⟨%f5, Hsb⟩, ⟨%f6, Hsp⟩, Hbufs⟩,
    ⟨Hc7, Hc8, Hc9, Hc10, Hc11, Hc12, Hc13, Hsems⟩, HO⟩
  ihave Hmw := (show levAts (K (F := F)).L (K (F := F)).lev ⊢ Transfers.MayWaits (thr d L) (default : HIx 1) O from
    (K (F := F)).mayWaits_none (thr := thr d L) hO) $$ Hlv
  ihave Hi0 := (show ((thr d L).loc cc0_scratch0 ↦{fullShare} f0 : sProp 𝕄) ⊢ (i0).view.loc (thr d L) ↦{fullShare} f0 from .rfl) $$ Hi0
  ihave Hi1 := (show ((thr d L).loc cc0_scratch1 ↦{fullShare} f1 : sProp 𝕄) ⊢ (i1).view.loc (thr d L) ↦{fullShare} f1 from .rfl) $$ Hi1
  ihave Hd0 := (show ((thr d L).loc cc0_scratch2 ↦{fullShare} f2 : sProp 𝕄) ⊢ (o0).view.loc (thr d L) ↦{fullShare} f2 from .rfl) $$ Hd0
  ihave Hd1 := (show ((thr d L).loc cc0_scratch3 ↦{fullShare} f3 : sProp 𝕄) ⊢ (o1).view.loc (thr d L) ↦{fullShare} f3 from .rfl) $$ Hd1
  ihave Hsa := (show ((thr d L).loc cc0_scratch4 ↦{fullShare} f4 : sProp 𝕄) ⊢ (sa).view.loc (thr d L) ↦{fullShare} f4 from .rfl) $$ Hsa
  ihave Hsb := (show ((thr d L).loc cc0_scratch5 ↦{fullShare} f5 : sProp 𝕄) ⊢ (sb).view.loc (thr d L) ↦{fullShare} f5 from .rfl) $$ Hsb
  ihave Hsp := (show ((thr d L).loc cc0_scratch6 ↦{fullShare} f6 : sProp 𝕄) ⊢ (sp).view.loc (thr d L) ↦{fullShare} f6 from .rfl) $$ Hsp
  ihave Ha := (show (aLoc d ↦{q} fa : sProp 𝕄) ⊢ (aV).view.loc (thr d L) ↦{q} fa from .rfl) $$ Ha
  ihave Hb := (show (bLoc d ↦{q} fb : sProp 𝕄) ⊢ (bV).view.loc (thr d L) ↦{q} fb from .rfl) $$ Hb
  ihave Hp := (show (pLoc d ↦{q} fp : sProp 𝕄) ⊢ (pV).view.loc (thr d L) ↦{q} fp from .rfl) $$ Hp
  sl_exec
  have hp' : Params s t (tile_body.sl.dma0_1 d fp) := hp
  rw [params_lo d L hp' f6, params_hi d L hp' f6]
  have ha : (sa).view.read (Elt F) (View.write (Elt F) (sa).view f4 (tile_body.sl.dma0_2 d fa) Finset.univ) = fa := read_written (b := cc0_scratch4) f4 _
  have hb : (sb).view.read (Elt F) (View.write (Elt F) (sb).view f5 (tile_body.sl.dma0_3 d fb) Finset.univ) = fb := read_written (b := cc0_scratch5) f5 _
  iapply (chunk_run d L (chunkR L 0).emb fx fa fb s t hN (read_written (b := cc0_scratch0) _ _) ha hb (p := evenLoop L s t) rfl) $$ [Hi0 Hsa Hsb Hd0]
  · isplitl [Hi0]; · iexact Hi0
    isplitl [Hsa]; · iexact Hsa
    isplitl [Hsb]; · iexact Hsb
    iexact Hd0
  iintro %g0 %hg0 ⟨Hi0, Hsa, Hsb, Hd0⟩
  sl_exec
  iapply (chunk_run d L (chunkR L 1).emb fx fa fb s t hN (read_written (b := cc0_scratch1) _ _) ha hb (p := oddLoop L s t) rfl) $$ [Hi1 Hsa Hsb Hd1]
  · isplitl [Hi1]; · iexact Hi1
    isplitl [Hsa]; · iexact Hsa
    isplitl [Hsb]; · iexact Hsb
    iexact Hd1
  iintro %g1 %hg1 ⟨Hi1, Hsa, Hsb, Hd1⟩
  sl_exec
  iapply (chunk_run d L (chunkR L 2).emb fx fa fb s t hN (read_written (b := cc0_scratch0) _ _) ha hb (p := evenLoop L s t) rfl) $$ [Hi0 Hsa Hsb Hd0]
  · isplitl [Hi0]; · iexact Hi0
    isplitl [Hsa]; · iexact Hsa
    isplitl [Hsb]; · iexact Hsb
    iexact Hd0
  iintro %g2 %hg2 ⟨Hi0, Hsa, Hsb, Hd0⟩
  sl_exec
  iapply (chunk_run d L (chunkR L 3).emb fx fa fb s t hN (read_written (b := cc0_scratch1) _ _) ha hb (p := oddLoop L s t) rfl) $$ [Hi1 Hsa Hsb Hd1]
  · isplitl [Hi1]; · iexact Hi1
    isplitl [Hsa]; · iexact Hsa
    isplitl [Hsb]; · iexact Hsb
    iexact Hd1
  iintro %g3 %hg3 ⟨Hi1, Hsa, Hsb, Hd1⟩
  sl_exec
  iapply (chunk_run d L (chunkR L 4).emb fx fa fb s t hN (read_written (b := cc0_scratch0) _ _) ha hb (p := evenLoop L s t) rfl) $$ [Hi0 Hsa Hsb Hd0]
  · isplitl [Hi0]; · iexact Hi0
    isplitl [Hsa]; · iexact Hsa
    isplitl [Hsb]; · iexact Hsb
    iexact Hd0
  iintro %g4 %hg4 ⟨Hi0, Hsa, Hsb, Hd0⟩
  sl_exec
  iapply (chunk_run d L (chunkR L 5).emb fx fa fb s t hN (read_written (b := cc0_scratch1) _ _) ha hb (p := oddLoop L s t) rfl) $$ [Hi1 Hsa Hsb Hd1]
  · isplitl [Hi1]; · iexact Hi1
    isplitl [Hsa]; · iexact Hsa
    isplitl [Hsb]; · iexact Hsb
    iexact Hd1
  iintro %g5 %hg5 ⟨Hi1, Hsa, Hsb, Hd1⟩
  sl_exec
  iapply (chunk_run d L (chunkR L 6).emb fx fa fb s t hN (read_written (b := cc0_scratch0) _ _) ha hb (p := evenLoop L s t) rfl) $$ [Hi0 Hsa Hsb Hd0]
  · isplitl [Hi0]; · iexact Hi0
    isplitl [Hsa]; · iexact Hsa
    isplitl [Hsb]; · iexact Hsb
    iexact Hd0
  iintro %g6 %hg6 ⟨Hi0, Hsa, Hsb, Hd0⟩
  sl_exec
  iapply (chunk_run d L (chunkR L 7).emb fx fa fb s t hN (read_written (b := cc0_scratch1) _ _) ha hb (p := oddLoop L s t) rfl) $$ [Hi1 Hsa Hsb Hd1]
  · isplitl [Hi1]; · iexact Hi1
    isplitl [Hsa]; · iexact Hsa
    isplitl [Hsb]; · iexact Hsb
    iexact Hd1
  iintro %g7 %hg7 ⟨Hi1, Hsa, Hsb, Hd1⟩
  sl_exec
  iapply (chunk_run d L (chunkR L 8).emb fx fa fb s t hN (read_written (b := cc0_scratch0) _ _) ha hb (p := evenLoop L s t) rfl) $$ [Hi0 Hsa Hsb Hd0]
  · isplitl [Hi0]; · iexact Hi0
    isplitl [Hsa]; · iexact Hsa
    isplitl [Hsb]; · iexact Hsb
    iexact Hd0
  iintro %g8 %hg8 ⟨Hi0, Hsa, Hsb, Hd0⟩
  sl_exec
  iapply (chunk_run d L (chunkR L 9).emb fx fa fb s t hN (read_written (b := cc0_scratch1) _ _) ha hb (p := oddLoop L s t) rfl) $$ [Hi1 Hsa Hsb Hd1]
  · isplitl [Hi1]; · iexact Hi1
    isplitl [Hsa]; · iexact Hsa
    isplitl [Hsb]; · iexact Hsb
    iexact Hd1
  iintro %g9 %hg9 ⟨Hi1, Hsa, Hsb, Hd1⟩
  sl_exec
  iapply (chunk_run d L (chunkR L 10).emb fx fa fb s t hN (read_written (b := cc0_scratch0) _ _) ha hb (p := evenLoop L s t) rfl) $$ [Hi0 Hsa Hsb Hd0]
  · isplitl [Hi0]; · iexact Hi0
    isplitl [Hsa]; · iexact Hsa
    isplitl [Hsb]; · iexact Hsb
    iexact Hd0
  iintro %g10 %hg10 ⟨Hi0, Hsa, Hsb, Hd0⟩
  sl_exec
  iapply (chunk_run d L (chunkR L 11).emb fx fa fb s t hN (read_written (b := cc0_scratch1) _ _) ha hb (p := oddLoop L s t) rfl) $$ [Hi1 Hsa Hsb Hd1]
  · isplitl [Hi1]; · iexact Hi1
    isplitl [Hsa]; · iexact Hsa
    isplitl [Hsb]; · iexact Hsb
    iexact Hd1
  iintro %g11 %hg11 ⟨Hi1, Hsa, Hsb, Hd1⟩
  sl_exec
  iapply (chunk_run d L (chunkR L 12).emb fx fa fb s t hN (read_written (b := cc0_scratch0) _ _) ha hb (p := evenLoop L s t) rfl) $$ [Hi0 Hsa Hsb Hd0]
  · isplitl [Hi0]; · iexact Hi0
    isplitl [Hsa]; · iexact Hsa
    isplitl [Hsb]; · iexact Hsb
    iexact Hd0
  iintro %g12 %hg12 ⟨Hi0, Hsa, Hsb, Hd0⟩
  sl_exec
  iapply (chunk_run d L (chunkR L 13).emb fx fa fb s t hN (read_written (b := cc0_scratch1) _ _) ha hb (p := oddLoop L s t) rfl) $$ [Hi1 Hsa Hsb Hd1]
  · isplitl [Hi1]; · iexact Hi1
    isplitl [Hsa]; · iexact Hsa
    isplitl [Hsb]; · iexact Hsb
    iexact Hd1
  iintro %g13 %hg13 ⟨Hi1, Hsa, Hsb, Hd1⟩
  sl_exec
  iapply (chunk_run d L (chunkR L 14).emb fx fa fb s t hN (read_written (b := cc0_scratch0) _ _) ha hb (p := evenLoop L s t) rfl) $$ [Hi0 Hsa Hsb Hd0]
  · isplitl [Hi0]; · iexact Hi0
    isplitl [Hsa]; · iexact Hsa
    isplitl [Hsb]; · iexact Hsb
    iexact Hd0
  iintro %g14 %hg14 ⟨Hi0, Hsa, Hsb, Hd0⟩
  sl_exec
  iapply (chunk_run d L (chunkR L 15).emb fx fa fb s t hN (read_written (b := cc0_scratch1) _ _) ha hb (p := oddLoop L s t) rfl) $$ [Hi1 Hsa Hsb Hd1]
  · isplitl [Hi1]; · iexact Hi1
    isplitl [Hsa]; · iexact Hsa
    isplitl [Hsb]; · iexact Hsb
    iexact Hd1
  iintro %g15 %hg15 ⟨Hi1, Hsa, Hsb, Hd1⟩
  sl_exec
  rw [wp_ret]; imodintro
  isplitl [Hx0 Hx1 Hx2 Hx3 Hx4 Hx5 Hx6 Hx7 Hx8 Hx9 Hx10 Hx11 Hx12 Hx13 Hx14 Hx15 Hxr Ha Hb Hp Ho0 Ho1 Ho2 Ho3 Ho4 Ho5 Ho6 Ho7 Ho8 Ho9 Ho10 Ho11 Ho12 Ho13 Ho14 Ho15 Hor]
  · isplitl [Hx0 Hx1 Hx2 Hx3 Hx4 Hx5 Hx6 Hx7 Hx8 Hx9 Hx10 Hx11 Hx12 Hx13 Hx14 Hx15 Hxr]
    · isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Hx6]; · iexact Hx6
      isplitl [Hx7]; · iexact Hx7
      isplitl [Hx8]; · iexact Hx8
      isplitl [Hx9]; · iexact Hx9
      isplitl [Hx10]; · iexact Hx10
      isplitl [Hx11]; · iexact Hx11
      isplitl [Hx12]; · iexact Hx12
      isplitl [Hx13]; · iexact Hx13
      isplitl [Hx14]; · iexact Hx14
      isplitl [Hx15]; · iexact Hx15
      iexact Hxr
    isplitl [Ha]; · iexact Ha
    isplitl [Hb]; · iexact Hb
    isplitl [Hp]; · iexact Hp
    isplitl [Ho0]; · iapply (out_done d L fa fb s t fx 0#32 (k0_off1_inb L 0) _ hg0); iexact Ho0
    isplitl [Ho1]; · iapply (out_done d L fa fb s t fx 16384#32 (k0_off1_inb L 1) _ hg1); iexact Ho1
    isplitl [Ho2]; · iapply (out_done d L fa fb s t fx 32768#32 (k0_off1_inb L 2) _ hg2); iexact Ho2
    isplitl [Ho3]; · iapply (out_done d L fa fb s t fx 49152#32 (k0_off1_inb L 3) _ hg3); iexact Ho3
    isplitl [Ho4]; · iapply (out_done d L fa fb s t fx 65536#32 (k0_off1_inb L 4) _ hg4); iexact Ho4
    isplitl [Ho5]; · iapply (out_done d L fa fb s t fx 81920#32 (k0_off1_inb L 5) _ hg5); iexact Ho5
    isplitl [Ho6]; · iapply (out_done d L fa fb s t fx 98304#32 (k0_off1_inb L 6) _ hg6); iexact Ho6
    isplitl [Ho7]; · iapply (out_done d L fa fb s t fx 114688#32 (k0_off1_inb L 7) _ hg7); iexact Ho7
    isplitl [Ho8]; · iapply (out_done d L fa fb s t fx 131072#32 (k0_off1_inb L 8) _ hg8); iexact Ho8
    isplitl [Ho9]; · iapply (out_done d L fa fb s t fx 147456#32 (k0_off1_inb L 9) _ hg9); iexact Ho9
    isplitl [Ho10]; · iapply (out_done d L fa fb s t fx 163840#32 (k0_off1_inb L 10) _ hg10); iexact Ho10
    isplitl [Ho11]; · iapply (out_done d L fa fb s t fx 180224#32 (k0_off1_inb L 11) _ hg11); iexact Ho11
    isplitl [Ho12]; · iapply (out_done d L fa fb s t fx 196608#32 (k0_off1_inb L 12) _ hg12); iexact Ho12
    isplitl [Ho13]; · iapply (out_done d L fa fb s t fx 212992#32 (k0_off1_inb L 13) _ hg13); iexact Ho13
    isplitl [Ho14]; · iapply (out_done d L fa fb s t fx 229376#32 (k0_off1_inb L 14) _ hg14); iexact Ho14
    isplitl [Ho15]; · iapply (out_done d L fa fb s t fx 245760#32 (k0_off1_inb L 15) _ hg15); iexact Ho15
    iapply (Entails.of_eq (bigSep_congr fun r hr => absurd (Finset.mem_sdiff.mp hr).2 (not_not.mpr (by revert r; decide)))); iexact Hor
  isplitl [Hi0 Hi1 Hd0 Hd1 Hsa Hsb Hsp Hbufs]
  · isplitl [Hi0]; · iexists _; iexact Hi0
    isplitl [Hi1]; · iexists _; iexact Hi1
    isplitl [Hd0]; · iexists _; iexact Hd0
    isplitl [Hd1]; · iexists _; iexact Hd1
    isplitl [Hsa]; · iexists _; iexact Hsa
    isplitl [Hsb]; · iexists _; iexact Hsb
    isplitl [Hsp]; · iexists _; iexact Hsp
    iexact Hbufs
  isplitl [Hc7 Hc8 Hc9 Hc10 Hc11 Hc12 Hc13 Hsems]
  · isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    iexact Hsems
  iexists _; isplitr
  rotate_left
  · iexact HO
  ipureintro
  repeat' first | exact fun p hp => Or.inl hp | refine waits_insert _ ?_

end Cert.Proof.Tile

end
-- ==== Proof.Host.lean ====
/-
  The host's part of the interpolation kernel: the operations before the call as a list, and what they leave in the five
  arrays the call reads and writes — the queries flattened, the two tables and the parameters.
-/
module

public import proofs.«01_k».proof.Proof.Tile
public import Idealize.ShloMosaic.Lib.Pipeline.Frame
public import Idealize.ShloMosaic.Lib.Pipeline.Value
public import Idealize.ShloMosaic.Lib.StableHlo.RunRead
public import Idealize.ShloMosaic.Lib.StableHlo.RunHlo

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-- The operations before the call. -/
def ops : List (HloOp τ sig (Elt F)) :=
  [ StableHlo.reshape main_arg0 main_v0 (rfl : (.f32 : EltTy) = .f32) shapeCasts_S8388608x1_S8388608,
    StableHlo.unary main_arg2 main_v1 ((extractStridedSlice S20 ![1] · slices_S21_S20_1) : (⟨S21, .f32⟩ : BufTy).Contents (Elt F) → (⟨S20, .f32⟩ : BufTy).Contents (Elt F)),
    StableHlo.unary main_arg2 main_v2 ((extractStridedSlice S20 ![0] · slices_S21_S20_0) : (⟨S21, .f32⟩ : BufTy).Contents (Elt F) → (⟨S20, .f32⟩ : BufTy).Contents (Elt F)),
    StableHlo.binary main_v1 main_v2 main_v3 (subf : (⟨S20, .f32⟩ : BufTy).Contents (Elt F) → (⟨S20, .f32⟩ : BufTy).Contents (Elt F) → (⟨S20, .f32⟩ : BufTy).Contents (Elt F)),
    StableHlo.unary main_arg1 main_v4 ((extractStridedSlice S20 ![1] · slices_S21_S20_1) : (⟨S21, .f32⟩ : BufTy).Contents (Elt F) → (⟨S20, .f32⟩ : BufTy).Contents (Elt F)),
    StableHlo.unary main_arg1 main_v5 ((extractStridedSlice S20 ![0] · slices_S21_S20_0) : (⟨S21, .f32⟩ : BufTy).Contents (Elt F) → (⟨S20, .f32⟩ : BufTy).Contents (Elt F)),
    StableHlo.binary main_v4 main_v5 main_v6 (subf : (⟨S20, .f32⟩ : BufTy).Contents (Elt F) → (⟨S20, .f32⟩ : BufTy).Contents (Elt F) → (⟨S20, .f32⟩ : BufTy).Contents (Elt F)),
    StableHlo.binary main_v3 main_v6 main_v7 (Host.divf : (⟨S20, .f32⟩ : BufTy).Contents (Elt F) → (⟨S20, .f32⟩ : BufTy).Contents (Elt F) → (⟨S20, .f32⟩ : BufTy).Contents (Elt F)),
    StableHlo.unary main_arg2 main_v8 ((extractStridedSlice S20 ![0] · slices_S21_S20_0) : (⟨S21, .f32⟩ : BufTy).Contents (Elt F) → (⟨S20, .f32⟩ : BufTy).Contents (Elt F)),
    StableHlo.unary main_arg1 main_v9 ((extractStridedSlice S20 ![0] · slices_S21_S20_0) : (⟨S21, .f32⟩ : BufTy).Contents (Elt F) → (⟨S20, .f32⟩ : BufTy).Contents (Elt F)),
    StableHlo.binary main_v9 main_v7 main_v10 (mulf : (⟨S20, .f32⟩ : BufTy).Contents (Elt F) → (⟨S20, .f32⟩ : BufTy).Contents (Elt F) → (⟨S20, .f32⟩ : BufTy).Contents (Elt F)),
    StableHlo.binary main_v8 main_v10 main_v11 (subf : (⟨S20, .f32⟩ : BufTy).Contents (Elt F) → (⟨S20, .f32⟩ : BufTy).Contents (Elt F) → (⟨S20, .f32⟩ : BufTy).Contents (Elt F)),
    StableHlo.unary main_arg1 main_v12 ((extractStridedSlice S1 ![1] · slices_S21_S1_1) : (⟨S21, .f32⟩ : BufTy).Contents (Elt F) → (⟨S1, .f32⟩ : BufTy).Contents (Elt F)),
    StableHlo.reshape main_v12 main_v13 (rfl : (.f32 : EltTy) = .f32) shapeCasts_S1_S_,
    StableHlo.unary main_arg1 main_v14 ((extractStridedSlice S1 ![0] · slices_S21_S1_0) : (⟨S21, .f32⟩ : BufTy).Contents (Elt F) → (⟨S1, .f32⟩ : BufTy).Contents (Elt F)),
    StableHlo.reshape main_v14 main_v15 (rfl : (.f32 : EltTy) = .f32) shapeCasts_S1_S_,
    StableHlo.binary main_v13 main_v15 main_v16 (subf : (⟨S_, .f32⟩ : BufTy).Contents (Elt F) → (⟨S_, .f32⟩ : BufTy).Contents (Elt F) → (⟨S_, .f32⟩ : BufTy).Contents (Elt F)),
    StableHlo.nullary main_cst (constant S_ .f32 0x3F800000#32),
    StableHlo.binary main_cst main_v16 main_v17 (Host.divf : (⟨S_, .f32⟩ : BufTy).Contents (Elt F) → (⟨S_, .f32⟩ : BufTy).Contents (Elt F) → (⟨S_, .f32⟩ : BufTy).Contents (Elt F)),
    StableHlo.unary main_v17 main_v18 (broadcastInDim S16 ![] bcast_S_S16 : (⟨S_, .f32⟩ : BufTy).Contents (Elt F) → (⟨S16, .f32⟩ : BufTy).Contents (Elt F)),
    StableHlo.unary main_arg1 main_v19 ((extractStridedSlice S1 ![0] · slices_S21_S1_0) : (⟨S21, .f32⟩ : BufTy).Contents (Elt F) → (⟨S1, .f32⟩ : BufTy).Contents (Elt F)),
    StableHlo.reshape main_v19 main_v20 (rfl : (.f32 : EltTy) = .f32) shapeCasts_S1_S_,
    StableHlo.unary main_v20 main_v21 (Host.negf : (⟨S_, .f32⟩ : BufTy).Contents (Elt F) → (⟨S_, .f32⟩ : BufTy).Contents (Elt F)),
    StableHlo.binary main_v21 main_v17 main_v22 (mulf : (⟨S_, .f32⟩ : BufTy).Contents (Elt F) → (⟨S_, .f32⟩ : BufTy).Contents (Elt F) → (⟨S_, .f32⟩ : BufTy).Contents (Elt F)),
    StableHlo.unary main_v22 main_v23 (broadcastInDim S16 ![] bcast_S_S16 : (⟨S_, .f32⟩ : BufTy).Contents (Elt F) → (⟨S16, .f32⟩ : BufTy).Contents (Elt F)),
    StableHlo.binary main_v18 main_v23 main_v24 ((fun a b => concatenate S32 0 [⟨S16, a⟩, ⟨S16, b⟩] concatenates_S16_S16_S32_d0) : (⟨S16, .f32⟩ : BufTy).Contents (Elt F) → (⟨S16, .f32⟩ : BufTy).Contents (Elt F) → (⟨S32, .f32⟩ : BufTy).Contents (Elt F))]

/-- `main` is those operations and the call. -/
theorem main_eq (d : Dev nD) : main (F := F) d = StableHlo.seq (ops (F := F)) >>= fun _ => (sc (F := F)).run d 0 >>= fun _ => pure ⟨⟩ := rfl

theorem ops_sub : (ops (F := F)).Forall fun op => op.bufs ⊆ StableHlo.tcRefs τ sig :=
  ⟨StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.unary_bufs_sub .., StableHlo.unary_bufs_sub .., StableHlo.reshape_bufs_sub .., StableHlo.unary_bufs_sub .., StableHlo.binary_bufs_sub .., StableHlo.unary_bufs_sub .., StableHlo.binary_bufs_sub ..⟩

/-- Each operation touches the host's own arrays only. -/
theorem ops_bufs (op : HloOp τ sig (Elt F)) (h : op ∈ ops (F := F)) : op.bufs ⊆ Pipeline.ucRefs τ sig :=
  Pipeline.sub_ucRefs op (List.forall_iff_forall_mem.mp ops_sub op h)

theorem ops_fresh (op : HloOp τ sig (Elt F)) (h : op ∈ ops (F := F)) : op.fresh = ∅ :=
  List.forall_iff_forall_mem.mp (show (ops (F := F)).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl⟩) op h

/-! ## What they compute -/

/-- The queries, flattened. -/
def flat (x : S8388608x1.Idx → F .f32) : S8388608.Idx → F .f32 := shapeCast S8388608 x shapeCasts_S8388608x1_S8388608

/-- The slopes: differences of the values over differences of the grid. -/
def slopes (P h : S21.Idx → F .f32) : S20.Idx → F .f32 :=
  Host.divf (subf (extractStridedSlice S20 ![1] h slices_S21_S20_1) (extractStridedSlice S20 ![0] h slices_S21_S20_0))
    (subf (extractStridedSlice S20 ![1] P slices_S21_S20_1) (extractStridedSlice S20 ![0] P slices_S21_S20_0))

/-- The intercepts. -/
def icepts (P h : S21.Idx → F .f32) : S20.Idx → F .f32 :=
  subf (extractStridedSlice S20 ![0] h slices_S21_S20_0) (mulf (extractStridedSlice S20 ![0] P slices_S21_S20_0) (slopes P h))

/-- The first and second grid points, as scalars. -/
def grid₀ (P : S21.Idx → F .f32) : S_.Idx → F .f32 := shapeCast S_ (extractStridedSlice S1 ![0] P slices_S21_S1_0) shapeCasts_S1_S_
def grid₁ (P : S21.Idx → F .f32) : S_.Idx → F .f32 := shapeCast S_ (extractStridedSlice S1 ![1] P slices_S21_S1_1) shapeCasts_S1_S_

/-- The scale, one over the first spacing, and the offset, minus the first point times the scale. -/
def scaleS (P : S21.Idx → F .f32) : S_.Idx → F .f32 := Host.divf (constant S_ .f32 0x3F800000#32) (subf (grid₁ P) (grid₀ P))
def offsS (P : S21.Idx → F .f32) : S_.Idx → F .f32 := mulf (Host.negf (grid₀ P)) (scaleS P)
def pt : S_.Idx := fun a => nomatch a
def scale (P : S21.Idx → F .f32) : F .f32 := scaleS P pt
def offs (P : S21.Idx → F .f32) : F .f32 := offsS P pt

/-- The parameters: the scale sixteen times, then the offset sixteen times. -/
def prm (P : S21.Idx → F .f32) : S32.Idx → F .f32 :=
  concatenate S32 0 [⟨S16, broadcastInDim S16 ![] bcast_S_S16 (scaleS P)⟩, ⟨S16, broadcastInDim S16 ![] bcast_S_S16 (offsS P)⟩] concatenates_S16_S16_S32_d0

theorem prm_params (P : S21.Idx → F .f32) : Params (scale P) (offs P) (prm P) := by
  intro j
  unfold prm
  by_cases h : (j 0).val < 16
  · rw [if_pos h]
    refine (concatenate_pair_apply_left 0 _ _ concatenates_S16_S16_S32_d0 j rfl
      (fun a => match a with | ⟨0, _⟩ => ⟨(j 0).val, h⟩) fun b => ?_).trans rfl
    match b with
    | ⟨0, _⟩ => rfl
  · rw [if_neg h]
    have hj : (j 0).val < 32 := (j 0).isLt
    refine (concatenate_pair_apply_right 0 _ _ concatenates_S16_S16_S32_d0 j rfl rfl
      (fun a => match a with | ⟨0, _⟩ => ⟨(j 0).val - 16, by change _ < 16; omega⟩) (fun b hb => ?_) ?_).trans rfl
    · match b with
      | ⟨0, _⟩ => exact absurd rfl hb
    · change (j 0).val - 16 + 16 = (j 0).val
      omega

variable (V : Valuation τ sig (Elt F))

theorem after_v0 : StableHlo.after ops V (Proc.devRef .tc main_v0) = flat (V (Proc.devRef .tc main_arg0)) := by after_reads_simp; rfl
theorem after_v7 : StableHlo.after ops V (Proc.devRef .tc main_v7) = slopes (V (Proc.devRef .tc main_arg1)) (V (Proc.devRef .tc main_arg2)) := by after_reads_simp; rfl
theorem after_v11 : StableHlo.after ops V (Proc.devRef .tc main_v11) = icepts (V (Proc.devRef .tc main_arg1)) (V (Proc.devRef .tc main_arg2)) := by after_reads_simp; rfl
theorem after_v24 : StableHlo.after ops V (Proc.devRef .tc main_v24) = prm (V (Proc.devRef .tc main_arg1)) := by after_reads_simp; rfl
theorem after_v25 : StableHlo.after ops V (Proc.devRef .tc main_v25) = V (Proc.devRef .tc main_v25) := by after_reads_simp
theorem after_arg0 : StableHlo.after ops V (Proc.devRef .tc main_arg0) = V (Proc.devRef .tc main_arg0) := by after_reads_simp
theorem after_arg1 : StableHlo.after ops V (Proc.devRef .tc main_arg1) = V (Proc.devRef .tc main_arg1) := by after_reads_simp
theorem after_arg2 : StableHlo.after ops V (Proc.devRef .tc main_arg2) = V (Proc.devRef .tc main_arg2) := by after_reads_simp

end Cert.Proof.Tile

end
-- ==== Proof.Split.lean ====
/-
  How the whole arrays divide among the tiles: a read share of each table for every tile, and the sixteen chunks of every
  tile's range of the queries and of the result.
-/
module

public import proofs.«01_k».proof.Proof.Tile

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The grid's point of core `c` and tile `i`. -/
def coordsV (c : Fin (grid0.bound 0)) (i : Fin (grid0.bound 1)) : grid0.Coords :=
  fun | 0 => c | 1 => i | ⟨_ + 2, h⟩ => absurd h (Nat.not_lt.2 (Nat.le_add_left _ _))

/-! ## Read shares -/

/-- A share cut into `n + 1`: the left half first, the rest out of the right half. -/
def cut : (n : ℕ) → PosShare TreeShare → Fin (n + 1) → PosShare TreeShare
  | 0, q, _ => q
  | n + 1, q, i => Fin.cases q.left (fun j => cut n q.right j) i

theorem bigSep_fin_succ {n : ℕ} (Φ : Fin (n + 1) → sProp 𝕄) :
    bigSep Finset.univ Φ = iprop(Φ 0 ∗ bigSep Finset.univ fun i : Fin n => Φ i.succ) := by
  rw [Fin.univ_succ, Finset.cons_eq_insert, SparseCore.bigSep_insert' (by simp), bigSep_map]
  rfl

theorem pts_cut (ℓ : Loc nD τ sig) (f : Buf (Elt F) ℓ) : ∀ (n : ℕ) (q : PosShare TreeShare),
    (ℓ ↦{q} f : sProp 𝕄) = bigSep Finset.univ fun i : Fin (n + 1) => ℓ ↦{cut n q i} f
  | 0, q => (bigSep_univ_of_subsingleton (0 : Fin 1) (Φ := fun i : Fin (0 + 1) => (ℓ ↦{cut 0 q i} f : sProp 𝕄))).symm
  | n + 1, q => by
    rw [BI.Entails.antisymm (pointsTo_share (PosShare.mem_left_op_right q)).1 (pointsTo_share (PosShare.mem_left_op_right q)).2,
      pts_cut ℓ f n q.right]
    exact (bigSep_fin_succ (fun i => (ℓ ↦{cut (n + 1) q i} f : sProp 𝕄))).symm

/-- Tile `i` of core `c`'s share of a table. -/
def readQ (c : Fin 2) (i : Fin 16) : PosShare TreeShare := cut 15 (cut 1 fullShare c) i

theorem pts_read (ℓ : Loc nD τ sig) (f : Buf (Elt F) ℓ) :
    (ℓ ↦{fullShare} f : sProp 𝕄) = bigSep Finset.univ fun c : Fin 2 => bigSep Finset.univ fun i : Fin 16 => ℓ ↦{readQ c i} f :=
  (pts_cut ℓ f 1 fullShare).trans (bigSep_congr fun c _ => pts_cut ℓ f 15 (cut 1 fullShare c))

/-! ## Chunks -/

/-- The places of one chunk. -/
theorem mem_chunk (c : Fin 2) (i r : Fin 16) (z : S8388608.Idx) :
    z ∈ (chunkR (coordsV c i) r).set
      ↔ 524288 * i.val + 262144 * c.val + 16384 * r.val ≤ (z 0).val ∧ (z 0).val < 524288 * i.val + 262144 * c.val + 16384 * r.val + 16384 := by
  rw [Rect.mem_set_unit, k0_off1_eq]
  exact ⟨fun h => h 0, fun h a => match a with | ⟨0, _⟩ => h⟩

/-- One chunk's places, the tiles and the chunks indexed together. -/
def chunkSet (p : Fin 2 × Fin 16 × Fin 16) : Finset S8388608.Idx := (chunkR (coordsV p.1 p.2.1) p.2.2).set

theorem chunkSet_disjoint : ∀ p ∈ (Finset.univ : Finset (Fin 2 × Fin 16 × Fin 16)), ∀ p' ∈ (Finset.univ : Finset (Fin 2 × Fin 16 × Fin 16)),
    p ≠ p' → Disjoint (chunkSet p) (chunkSet p') := by
  rintro ⟨c, i, r⟩ - ⟨c', i', r'⟩ - hne
  refine Finset.disjoint_left.mpr fun z hz hz' => hne ?_
  have h := (mem_chunk c i r z).mp hz
  have h' := (mem_chunk c' i' r' z).mp hz'
  have := c.isLt; have := c'.isLt; have := i.isLt; have := i'.isLt; have := r.isLt; have := r'.isLt
  refine Prod.ext (Fin.ext ?_) (Prod.ext (Fin.ext ?_) (Fin.ext ?_)) <;> dsimp only <;> omega

theorem chunkSet_cover : (Finset.univ : Finset (Fin 2 × Fin 16 × Fin 16)).biUnion chunkSet = Finset.univ := by
  refine Finset.eq_univ_iff_forall.mpr fun z => Finset.mem_biUnion.mpr ?_
  have hz : (z 0).val < 8388608 := (z 0).isLt
  refine ⟨(⟨(z 0).val / 262144 % 2, by omega⟩, ⟨(z 0).val / 524288, by omega⟩, ⟨(z 0).val / 16384 % 16, by omega⟩), Finset.mem_univ _, ?_⟩
  refine (mem_chunk _ _ _ z).mpr ?_
  dsimp only
  omega

theorem xSet_eq (L : grid0.Coords) (r : Fin 16) : (xS L r).view.set = (chunkR L r).set := by
  show ((View.whole (main_v0_scv : Ref sig .scVector)).slice (chunkR L r)).set = _
  rw [View.set_slice]; exact Finset.map_refl
theorem oSet_eq (L : grid0.Coords) (r : Fin 16) : (oS L r).view.set = (chunkR L r).set := by
  show ((View.whole (main_v25_scv : Ref sig .scVector)).slice (chunkR L r)).set = _
  rw [View.set_slice]; exact Finset.map_refl

variable (d : Dev nD)

/-- The queries, divided. -/
theorem pts_queries (f : Buf (Elt F) (xLoc d)) :
    (xLoc d ↦{fullShare} f : sProp 𝕄)
      = bigSep Finset.univ fun c : Fin 2 => bigSep Finset.univ fun i : Fin 16 => bigSep Finset.univ (xPts d (coordsV c i) f) := by
  have h := pointsTo_biUnion (Ix := HIx 1) (Val := Elt F) (Name := ℕ) (U := UU) (Lvl := ℕ) (ℓ := xLoc d) (q := fullShare) (f := f)
    Finset.univ chunkSet chunkSet_disjoint
  rw [chunkSet_cover, bigSep_univ_prod] at h
  refine h.trans (bigSep_congr fun c _ => (bigSep_univ_prod _).trans (bigSep_congr fun i _ => bigSep_congr fun r _ => ?_))
  exact congrArg (fun s => (xLoc d ↦[s]{fullShare} f : sProp 𝕄)) (xSet_eq (coordsV c i) r).symm

/-- The result, divided. -/
theorem pts_result (f : Buf (Elt F) (oLoc d)) :
    (oLoc d ↦{fullShare} f : sProp 𝕄)
      = bigSep Finset.univ fun c : Fin 2 => bigSep Finset.univ fun i : Fin 16 => bigSep Finset.univ (oPts d (coordsV c i) f) := by
  have h := pointsTo_biUnion (Ix := HIx 1) (Val := Elt F) (Name := ℕ) (U := UU) (Lvl := ℕ) (ℓ := oLoc d) (q := fullShare) (f := f)
    Finset.univ chunkSet chunkSet_disjoint
  rw [chunkSet_cover, bigSep_univ_prod] at h
  refine h.trans (bigSep_congr fun c _ => (bigSep_univ_prod _).trans (bigSep_congr fun i _ => bigSep_congr fun r _ => ?_))
  exact congrArg (fun s => (oLoc d ↦[s]{fullShare} f : sProp 𝕄)) (oSet_eq (coordsV c i) r).symm

end Cert.Proof.Tile

end
-- ==== Proof.Launch.lean ====
/-
  The launch: the handshakes' payloads, every tile's task, `main` on the TensorCore — the host's operations, then the call
  — and the run of the whole program, over any float values `F`.
-/
module

public import proofs.«01_k».proof.Proof.Host
public import proofs.«01_k».proof.Proof.Split

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S8388608 EltTy.f32)
local notation "aV" => (Memref.whole Cert.KernelIdeal.main_v11_scv : Memref Cert.KernelIdeal.sig Kind.scVector Space.hbm Cert.KernelIdeal.S20 EltTy.f32)
local notation "bV" => (Memref.whole Cert.KernelIdeal.main_v7_scv : Memref Cert.KernelIdeal.sig Kind.scVector Space.hbm Cert.KernelIdeal.S20 EltTy.f32)
local notation "pV" => (Memref.whole Cert.KernelIdeal.main_v24_scv : Memref Cert.KernelIdeal.sig Kind.scVector Space.hbm Cert.KernelIdeal.S32 EltTy.f32)
local notation "oV" => (Memref.whole Cert.KernelIdeal.main_v25_scv : Memref Cert.KernelIdeal.sig Kind.scVector Space.hbm Cert.KernelIdeal.S8388608 EltTy.f32)
local notation "i0" => (Memref.whole Cert.KernelIdeal.cc0_scratch0 : Memref Cert.KernelIdeal.sig Kind.scVector Space.vmem Cert.KernelIdeal.S16384 EltTy.f32)
local notation "i1" => (Memref.whole Cert.KernelIdeal.cc0_scratch1 : Memref Cert.KernelIdeal.sig Kind.scVector Space.vmem Cert.KernelIdeal.S16384 EltTy.f32)
local notation "o0" => (Memref.whole Cert.KernelIdeal.cc0_scratch2 : Memref Cert.KernelIdeal.sig Kind.scVector Space.vmem Cert.KernelIdeal.S16384 EltTy.f32)
local notation "o1" => (Memref.whole Cert.KernelIdeal.cc0_scratch3 : Memref Cert.KernelIdeal.sig Kind.scVector Space.vmem Cert.KernelIdeal.S16384 EltTy.f32)
local notation "sa" => (Memref.whole Cert.KernelIdeal.cc0_scratch4 : Memref Cert.KernelIdeal.sig Kind.scVector Space.vmem Cert.KernelIdeal.S20 EltTy.f32)
local notation "sb" => (Memref.whole Cert.KernelIdeal.cc0_scratch5 : Memref Cert.KernelIdeal.sig Kind.scVector Space.vmem Cert.KernelIdeal.S20 EltTy.f32)
local notation "sp" => (Memref.whole Cert.KernelIdeal.cc0_scratch6 : Memref Cert.KernelIdeal.sig Kind.scVector Space.vmem Cert.KernelIdeal.S32 EltTy.f32)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

theorem nCore_eq (q : Fin 1) : (K (F := F)).nCore q = 2 := match q with | 0 => rfl
theorem nSub_eq (q : Fin 1) : (K (F := F)).nSub q = 16 := match q with | 0 => rfl

variable [FloatOps F]
variable (m : (ℓ : Loc nD τ sig) → Buf (Elt F) ℓ) (ρ : Dev nD → PrngReg)

/-! ## The arrays -/

abbrev qArg (d : Dev nD) : Loc nD τ sig := (SparseCore.T d).loc main_arg0
abbrev gArg (d : Dev nD) : Loc nD τ sig := (SparseCore.T d).loc main_arg1
abbrev hArg (d : Dev nD) : Loc nD τ sig := (SparseCore.T d).loc main_arg2

/-- The arrays at the call. -/
def xArr (d : Dev nD) : Buf (Elt F) (xLoc d) := flat (m (qArg d))
def aArr (d : Dev nD) : Buf (Elt F) (aLoc d) := icepts (m (gArg d)) (m (hArg d))
def bArr (d : Dev nD) : Buf (Elt F) (bLoc d) := slopes (m (gArg d)) (m (hArg d))
def pArr (d : Dev nD) : Buf (Elt F) (pLoc d) := prm (m (gArg d))

/-- The result. -/
def out (d : Dev nD) : Buf (Elt F) (oLoc d) :=
  vals (icepts (m (gArg d)) (m (hArg d))) (slopes (m (gArg d)) (m (hArg d))) (scale (m (gArg d))) (offs (m (gArg d))) (flat (m (qArg d)))

/-- What the proof asks of the launch memory: every query's segment names an entry of the tables. -/
def PreOK : Prop := ∀ (d : Dev nD) (z : S8388608.Idx), (seg (scale (m (gArg d))) (offs (m (gArg d))) (flat (m (qArg d)) z)).toNat < 20

/-- What a tile holds, the result's pieces at `fo`. -/
def tileRes (d : Dev nD) (fo : Buf (Elt F) (oLoc d)) (c : Fin 2) (i : Fin 16) : sProp 𝕄 :=
  iprop(bigSep Finset.univ (xPts d (coordsV c i) (xArr m d)) ∗ (aLoc d ↦{readQ c i} aArr m d) ∗ (bLoc d ↦{readQ c i} bArr m d)
    ∗ (pLoc d ↦{readQ c i} pArr m d) ∗ bigSep Finset.univ (oPts d (coordsV c i) fo))

/-- What a core holds. -/
def coreRes (d : Dev nD) (fo : Buf (Elt F) (oLoc d)) (c : Fin 2) : sProp 𝕄 := bigSep Finset.univ (tileRes m d fo c)

instance tileRes_storable (d : Dev nD) (fo : Buf (Elt F) (oLoc d)) (c : Fin 2) (i : Fin 16) : BI.Storable (upEmb : UEmb _ 𝕄) (tileRes m d fo c i) := by
  unfold tileRes; infer_instance
instance coreRes_storable (d : Dev nD) (fo : Buf (Elt F) (oLoc d)) (c : Fin 2) : BI.Storable (upEmb : UEmb _ 𝕄) (coreRes m d fo c) := by
  unfold coreRes; infer_instance

/-- The call's payloads: a core and a tile start with their pieces and end with them, the result's at its values. -/
def P : (K (F := F)).Pay (nD := nD) (Val := Elt F) (Name := ℕ) (U := UU) where
  st := fun q d c => coreRes m d (m (oLoc d)) (Fin.cast (nCore_eq q) c)
  dn := fun q d c => coreRes m d (out m d) (Fin.cast (nCore_eq q) c)
  go := fun q d c i => tileRes m d (m (oLoc d)) (Fin.cast (nCore_eq q) c) (Fin.cast (nSub_eq q) i)
  td := fun q d c i => tileRes m d (out m d) (Fin.cast (nCore_eq q) c) (Fin.cast (nSub_eq q) i)
  x := fun _ _ => iprop(emp)

instance P_storable : (P (F := F) m).IsStorable where
  st q d c := coreRes_storable m d (m (oLoc d)) (Fin.cast (nCore_eq q) c)
  dn q d c := coreRes_storable m d (out m d) (Fin.cast (nCore_eq q) c)
  go q d c i := tileRes_storable m d (m (oLoc d)) (Fin.cast (nCore_eq q) c) (Fin.cast (nSub_eq q) i)
  td q d c i := tileRes_storable m d (out m d) (Fin.cast (nCore_eq q) c) (Fin.cast (nSub_eq q) i)

/-! ## The tiles' obligation -/

theorem defs₀_vector (c : Fin τ.nSC) (s : Fin τ.nSub) :
    defs₀ (F := F) (.scVector c s) 0 ()
      = SparseCore.onTile hcore0 hsub0 (fun c s => cc0_h0_map (coordsV c s)
          xV (Memref.isWhole_whole _) aV (Memref.isWhole_whole _) bV (Memref.isWhole_whole _) pV (Memref.isWhole_whole _) oV (Memref.isWhole_whole _)
          i0 (Memref.isWhole_whole _) i1 (Memref.isWhole_whole _) o0 (Memref.isWhole_whole _) o1 (Memref.isWhole_whole _)
          sa (Memref.isWhole_whole _) sb (Memref.isWhole_whole _) sp (Memref.isWhole_whole _)
          cc0_scratch7 cc0_scratch8 cc0_scratch9 cc0_scratch10 cc0_scratch11 cc0_scratch12 cc0_scratch13) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task, from its pieces to its pieces with the result's at their values. -/
theorem tileObl (hpre : PreOK m) : (K (F := F)).TileObl (D (F := F)) 𝒱 (P m) v₀ 0 := by
  intro d c i O W hO _ _
  simp only [show (P (F := F) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts (readQ (Fin.cast (nCore_eq 0) c) (Fin.cast (nSub_eq 0) i)) (xArr m d) (aArr m d) (bArr m d) (pArr m d)
    (m (oLoc d)) (scale (m (gArg d))) (offs (m (gArg d))) (prm_params _) (hpre d) O W hO).trans (wp_mono frame _ _ fun _ => obl_post)

/-- A core's pieces are its tiles'. -/
theorem vecSplit : (K (F := F)).VecSplit' (P m) 0 := by
  intro d c
  show coreRes m d (m (oLoc d)) (Fin.cast (nCore_eq 0) c) ⊢ |={Set.univ}=> iprop(
      (bigSep Finset.univ fun i : Fin 16 => tileRes m d (m (oLoc d)) (Fin.cast (nCore_eq 0) c) i)
      ∗ ((bigSep Finset.univ fun i : Fin 16 => tileRes m d (out m d) (Fin.cast (nCore_eq 0) c) i)
          -∗ coreRes m d (out m d) (Fin.cast (nCore_eq 0) c)))
  unfold coreRes
  iintro H; imodintro
  isplitl [H]; · iexact H
  iintro H; iexact H

/-- The cores' pieces are the whole arrays. -/
theorem cores_eq (d : Dev nD) (fo : Buf (Elt F) (oLoc d)) :
    bigSep Finset.univ (coreRes m d fo)
      = iprop((xLoc d ↦{fullShare} xArr m d) ∗ (aLoc d ↦{fullShare} aArr m d) ∗ (bLoc d ↦{fullShare} bArr m d) ∗ (pLoc d ↦{fullShare} pArr m d)
          ∗ oLoc d ↦{fullShare} fo) := by
  have e : ∀ c : Fin 2, coreRes m d fo c = iprop((bigSep Finset.univ fun i : Fin 16 => bigSep Finset.univ (xPts d (coordsV c i) (xArr m d)))
      ∗ (bigSep Finset.univ fun i : Fin 16 => aLoc d ↦{readQ c i} aArr m d) ∗ (bigSep Finset.univ fun i : Fin 16 => bLoc d ↦{readQ c i} bArr m d)
      ∗ (bigSep Finset.univ fun i : Fin 16 => pLoc d ↦{readQ c i} pArr m d) ∗ bigSep Finset.univ fun i : Fin 16 => bigSep Finset.univ (oPts d (coordsV c i) fo)) := by
    intro c
    unfold coreRes tileRes
    rw [bigSep_sep', bigSep_sep', bigSep_sep', bigSep_sep']
  rw [bigSep_congr fun c _ => e c, bigSep_sep', bigSep_sep', bigSep_sep', bigSep_sep', ← pts_queries, ← pts_read, ← pts_read, ← pts_read, ← pts_result]

theorem bigSep_cast {n k : ℕ} (h : n = k) (Φ : Fin k → sProp 𝕄) :
    (bigSep Finset.univ fun c : Fin n => Φ (Fin.cast h c)) = bigSep Finset.univ Φ := by
  subst h; rfl

theorem st0_eq (d : Dev nD) : (bigSep Finset.univ fun c : Fin ((K (F := F)).nCore 0) => (P m).st 0 d c) = bigSep Finset.univ (coreRes m d (m (oLoc d))) :=
  bigSep_cast (nCore_eq (F := F) 0) (coreRes m d (m (oLoc d)))
theorem dn0_eq (d : Dev nD) : (bigSep Finset.univ fun c : Fin ((K (F := F)).nCore 0) => (P m).dn 0 d c) = bigSep Finset.univ (coreRes m d (out m d)) :=
  bigSep_cast (nCore_eq (F := F) 0) (coreRes m d (out m d))

/-! ## The launch element of the ghost state -/

def u₀ : UU := (initOf (K (F := F)).hsCells (K (F := F)).hsToks, 1)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## `main` on the TensorCore -/

/-- The valuation the launch memory gives a device's buffers, and the one after the host's operations. -/
abbrev V₀ (d : Dev nD) : Valuation τ sig (Elt F) := fun b => m (d, b)
abbrev V₁ (d : Dev nD) : Valuation τ sig (Elt F) := StableHlo.after ops (V₀ m d)

/-- The arrays the proof follows: the call's five and the three arguments. -/
def used : Finset (DevRef τ sig) :=
  [main_v0, main_v11, main_v7, main_v24, main_v25, main_arg0, main_arg1, main_arg2].map (Proc.devRef (τ := τ) .tc) |>.toFinset

theorem used_sub : used ⊆ Pipeline.ucRefs τ sig := by decide

theorem held_used (d : Dev nD) :
    (StableHlo.held (d.tc : Thread nD τ) used (V₁ m d) : sProp 𝕄)
      = iprop((xLoc d ↦{fullShare} xArr m d) ∗ (aLoc d ↦{fullShare} aArr m d) ∗ (bLoc d ↦{fullShare} bArr m d) ∗ (pLoc d ↦{fullShare} pArr m d)
          ∗ (oLoc d ↦{fullShare} m (oLoc d)) ∗ (qArg d ↦{fullShare} m (qArg d)) ∗ (gArg d ↦{fullShare} m (gArg d)) ∗ (hArg d ↦{fullShare} m (hArg d))
          ∗ emp) := by
  unfold StableHlo.held used
  refine (bigSep_list _ ([main_v0, main_v11, main_v7, main_v24, main_v25, main_arg0, main_arg1, main_arg2].map (Proc.devRef (τ := τ) .tc)) _ ?_ ?_).trans ?_
  · exact List.Nodup.map (fun _ _ e => Proc.devRef_injective _ e) (by decide)
  · intro a ha; exact List.mem_toFinset.mpr ha
  · rw [Finset.sdiff_self, bigSep_empty]
    simp only [List.map_cons, List.map_nil, List.foldr_cons, List.foldr_nil, V₁, after_v0, after_v7, after_v11, after_v24, after_v25, after_arg0,
      after_arg1, after_arg2]
    rfl

/-- What `main` ends with: the result at its values, the arguments as they were. -/
abbrev FIN (d : Dev nD) : sProp 𝕄 :=
  iprop((oLoc d ↦{fullShare} out m d) ∗ (qArg d ↦{fullShare} m (qArg d)) ∗ (gArg d ↦{fullShare} m (gArg d)) ∗ hArg d ↦{fullShare} m (hArg d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = StableHlo.held (d.tc : Thread nD τ) (Pipeline.ucRefs τ sig) (V₀ m d) from
    Pipeline.unscopedBufs_held d (V₀ m d)]
  iintro ⟨#Hctx, Hst, ⟨Hb, Hh, Hts, -⟩, -⟩
  iapply (StableHlo.wp_seq 𝒱 none Set.univ d (Pipeline.ucRefs τ sig) _ ops ops_bufs ops_fresh (V₀ m d)) $$ [Hb Hh]
  · isplitl [Hb] <;> iassumption
  iintro ⟨Hb, Hh⟩
  ihave Hh := (Entails.of_eq ((StableHlo.held_sub_split (d.tc : Thread nD τ) used_sub (V₁ m d)).trans
    (congrArg (fun X => iprop(X ∗ _)) (held_used m d)))) $$ Hh
  icases Hh with ⟨⟨Hx, Ha, Hbb, Hp, Ho, Hq, Hg, Hhh, -⟩, -⟩
  simp only [wp_bind, wp_pure]
  iapply ((K (F := F)).wp_run (D (F := F)) 𝒱 (EH := EH) (P := P m) κ d 0) $$ [Hst Hx Ha Hbb Hp Ho Hb Hts Hq Hg Hhh]
  isplitr; · iexact Hctx
  isplitl [Hst]; · iexact Hst
  isplitl [Hx Ha Hbb Hp Ho]
  · rw [st0_eq, cores_eq]
    isplitl [Hx]; · iexact Hx
    isplitl [Ha]; · iexact Ha
    isplitl [Hbb]; · iexact Hbb
    isplitl [Hp]; · iexact Hp
    iexact Ho
  iintro ⟨Hst, Hdn⟩
  ihave Hdn' := (Entails.of_eq ((dn0_eq m d).trans (cores_eq m d _))) $$ Hdn
  icases Hdn' with ⟨-, -, -, -, Ho⟩
  imodintro
  isplitl [Hst]; · iexact Hst
  isplitr [Hb Hts]
  · isplitl [Ho]; · iexact Ho
    isplitl [Hq]; · iexact Hq
    isplitl [Hg]; · iexact Hg
    iexact Hhh
  isplitl [Hb] <;> iassumption

/-! ## The end of the run -/

def fq (d : Dev nD) (s' : Phys nD τ sig (Elt F)) : Prop :=
  s'.mem.mem (oLoc d) = out m d ∧ s'.mem.mem (qArg d) = m (qArg d) ∧ s'.mem.mem (gArg d) = m (gArg d) ∧ s'.mem.mem (hArg d) = m (hArg d)

/-- A whole array held is what the memory holds. -/
theorem SI_whole (ℓ : Loc nD τ sig) (f : Buf (Elt F) ℓ) (s' : Phys nD τ sig (Elt F)) :
    iprop(SI s' ∗ ℓ ↦{fullShare} f) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨Ho, Hq, Hg, Hh⟩, HSI⟩
  ihave H := (SI_whole (oLoc d) (out m d) s') $$ [HSI Ho]; · isplitl [HSI] <;> iassumption
  icases H with ⟨%h1, HSI⟩
  ihave H := (SI_whole (qArg d) (m (qArg d)) s') $$ [HSI Hq]; · isplitl [HSI] <;> iassumption
  icases H with ⟨%h2, HSI⟩
  ihave H := (SI_whole (gArg d) (m (gArg d)) s') $$ [HSI Hg]; · isplitl [HSI] <;> iassumption
  icases H with ⟨%h3, HSI⟩
  ihave H := (SI_whole (hArg d) (m (hArg d)) s') $$ [HSI Hh]; · isplitl [HSI] <;> iassumption
  icases H with ⟨%h4, -⟩
  ipureintro; exact ⟨h1, h2, h3, h4⟩

/-- The end of the run: on each device the result at its values and the arguments as they were; every counter at zero. -/
def QC : PUnit × MemSt nD τ sig (Elt F) → Prop := fun r =>
  (∀ d : Dev nD, r.2.mem (oLoc d) = out m d ∧ r.2.mem (qArg d) = m (qArg d) ∧ r.2.mem (gArg d) = m (gArg d) ∧ r.2.mem (hArg d) = m (hArg d))
    ∧ r.2.sem = fun _ => 0

/-- The program's run, over any float values. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Tile

end
-- ==== Proof.Ref.lean ====
/-
  The reference's result, at one query: its composed term named piece by piece — the clipped query, the count of grid
  points at or below it, the segment that count gives, the four table reads — and read at an index, over any float values.
-/
module

public import proofs.«01_k».proof.Proof.Gen.ReferenceIdeal.Run
public import Idealize.ShloMosaic.Lib.StableHlo.Predicate
public import Idealize.ShloMosaic.Lib.ReduceAll
public import Mathlib.Tactic.IntervalCases

@[expose] public section

noncomputable section

namespace Cert.Proof.Ref

open Cert.ReferenceIdeal Cert.ReferenceIdeal.Gen Cert.ReferenceIdeal.Value
open Idealize.ShloMosaic Idealize.ShloMosaic.StableHlo.Predicate

variable {F : FTy → Type} [FloatOps F]

/-! ## The pieces -/

/-- A scalar repeated for every query. -/
abbrev rep {α : Type} (v : S_.Idx → α) : S8388608.Idx → α := broadcastInDim S8388608 ![] bcast_S_S8388608 v

/-- The queries, clipped to the grid's range. -/
def clipped (x : S8388608x1.Idx → F .f32) (P : S21.Idx → F .f32) : S8388608.Idx → F .f32 :=
  minimumf (rep (shapeCast _ (extractStridedSlice S1 ![20] P slices_S21_S1_20) shapeCasts_S1_S_))
    (maximumf (rep (shapeCast _ (extractStridedSlice S1 ![0] P slices_S21_S1_0) shapeCasts_S1_S_)) (shapeCast _ x shapeCasts_S8388608x1_S8388608))

/-- Which grid points are at or below each query. -/
def below (x : S8388608x1.Idx → F .f32) (P : S21.Idx → F .f32) : S8388608x21.Idx → BitVec 1 :=
  cmpf .ole (broadcastInDim S8388608x21 ![0, 1] bcast_S1x21_S8388608x21_0_1 (broadcastInDim S1x21 ![1] bcast_S21_S1x21_1 P))
    (broadcastInDim S8388608x21 ![0, 1] bcast_S8388608x1_S8388608x21_0_1 (broadcastInDim S8388608x1 ![0] bcast_S8388608_S8388608x1_0 (clipped x P)))

/-- How many. -/
def tally (x : S8388608x1.Idx → F .f32) (P : S21.Idx → F .f32) : S8388608.Idx → BitVec 32 :=
  Host.reduce IntOp.addi (extui 32 (below x P) natLt_1_32) (constantI S_ 32 0#32) reducesTo_S8388608x21_S8388608_d1 h_S_

/-- The segment: one less, kept between 0 and 19. -/
def place (x : S8388608x1.Idx → F .f32) (P : S21.Idx → F .f32) : S8388608.Idx → BitVec 32 :=
  minsi (rep (id (constantI S_ 32 19#32))) (maxsi (rep (id (constantI S_ 32 0#32))) (subi (tally x P) (rep (constantI S_ 32 1#32))))

/-- The next grid point's number. -/
def next (w : S8388608.Idx → BitVec 32) : S8388608.Idx → BitVec 32 := addi w (rep (constantI S_ 32 1#32))

/-- A word below zero counted from the table's end; the words as a column. -/
def column (w : S8388608.Idx → BitVec 32) : S8388608x1.Idx → BitVec 32 :=
  broadcastInDim S8388608x1 ![0] bcast_S8388608_S8388608x1_0 (select (cmpi .slt w (rep (constantI S_ 32 0#32))) (addi w (rep (constantI S_ 32 21#32))) w)

/-- Which words name an entry of the table. -/
def inside (w : S8388608.Idx → BitVec 32) : S8388608x1.Idx → BitVec 1 :=
  andi (cmpi .sge (column w) (broadcastInDim S8388608x1 ![] bcast_S_S8388608x1 (constantI S_ 32 0#32)))
    (cmpi .sle (column w) (broadcastInDim S8388608x1 ![0, 1] bcast_S1x1_S8388608x1_0_1 (broadcastInDim S1x1 ![1] bcast_S1_S1x1_1 (constantI S1 32 20#32))))

/-- A table read at each word. -/
def take (T : S21.Idx → F .f32) (w : S8388608.Idx → BitVec 32) : S8388608.Idx → F .f32 :=
  select (Host.reduce IntOp.andi (inside w) (constantI S_ 1 1#1) reducesTo_S8388608x1_S8388608_d1 h_S_)
    (Host.gather gather_S21_S8388608x1_S8388608_n_0_n_n_0_1_1 T (column w)) (rep (constant S_ .f32 0x7FC00000#32))

/-- The reference's result. -/
def result (x : S8388608x1.Idx → F .f32) (P h : S21.Idx → F .f32) : S8388608.Idx → F .f32 :=
  addf (take h (place x P))
    (mulf (Host.divf (subf (clipped x P) (take P (place x P))) (subf (take P (next (place x P))) (take P (place x P))))
      (subf (take h (next (place x P))) (take h (place x P))))

set_option maxRecDepth 65536 in
theorem res_eq (m : (ℓ : Loc nD τ sig) → Buf (Elt F) ℓ) (c : Dev nD) :
    res_out0 m c = result (m ((c.tc : Thread nD τ).loc main_arg0)) (m ((c.tc : Thread nD τ).loc main_arg1)) (m ((c.tc : Thread nD τ).loc main_arg2)) := by
  unfold res_out0 res_main_v29 result take inside column next place tally below clipped
  rfl

/-! ## Read at a query -/

/-- Entry `k` of a table of twenty-one, `k` at most 20. -/
def entry (k : ℕ) : S21.Idx := Shape.Idx.ofFin ⟨min k 20, by omega⟩

/-- Query `p`. -/
abbrev query (p : Fin 8388608) : S8388608.Idx := Shape.Idx.ofFin p

/-- How many grid points are at or below query `p`, clipped. -/
def hits (x : S8388608x1.Idx → F .f32) (P : S21.Idx → F .f32) (p : Fin 8388608) : ℕ :=
  (Finset.univ.filter fun q : Fin 21 => FloatOps.cmpf .ole (P (Shape.Idx.ofFin q)) (clipped x P (query p)) = 1#1).card

theorem tally_toNat (x : S8388608x1.Idx → F .f32) (P : S21.Idx → F .f32) (p : Fin 8388608) : (tally x P (query p)).toNat = hits x P p := by
  refine (toNat_reduce_count_cols (n := 8388608) (m := 21) (by omega) (below x P) natLt_1_32 reducesTo_S8388608x21_S8388608_d1 h_S_ (query p)).trans ?_
  unfold hits
  congr 1
  refine Finset.filter_congr fun q _ => ?_
  have e : below x P (ij p q) = FloatOps.cmpf .ole (P (Shape.Idx.ofFin q)) (clipped x P (query p)) :=
    congrArg₂ (FloatOps.cmpf .ole) (bcast_cols bcast_S21_S1x21_1 bcast_S1x21_S8388608x21_0_1 P p q)
      (bcast_rows bcast_S8388608_S8388608x1_0 bcast_S8388608x1_S8388608x21_0_1 (clipped x P) p q)
  exact iff_of_eq (congrArg (· = 1#1) e)

theorem clamp_word (w : BitVec 32) (h : 1 ≤ w.toNat) (h' : w.toNat ≤ 21) :
    (IntOp.minsi 19#32 (IntOp.maxsi 0#32 (w - 1#32))).toNat = min (w.toNat - 1) 19 := by
  have e : w = BitVec.ofNat 32 w.toNat := by simp
  generalize w.toNat = n at h h' e
  subst e
  interval_cases n <;> decide

theorem place_toNat (x : S8388608x1.Idx → F .f32) (P : S21.Idx → F .f32) (p : Fin 8388608) (h : 1 ≤ hits x P p) :
    (place x P (query p)).toNat = min (hits x P p - 1) 19 := by
  rw [← tally_toNat] at h ⊢
  refine clamp_word (tally x P (query p)) h ?_
  rw [tally_toNat]
  exact (Finset.card_le_univ _).trans (by simp)

theorem next_toNat (w : S8388608.Idx → BitVec 32) (z : S8388608.Idx) (h : (w z).toNat < 20) : (next w z).toNat = (w z).toNat + 1 := by
  show (w z + 1#32).toNat = _
  rw [BitVec.toNat_add]
  simp only [BitVec.toNat_ofNat]
  omega

theorem wrap_word (w : BitVec 32) (h : w.toNat < 21) :
    (Scalar.select (IntOp.cmpi .slt w 0#32) (IntOp.addi w 21#32) w).toInt = (w.toNat : ℤ) := by
  have e : w = BitVec.ofNat 32 w.toNat := by simp
  generalize w.toNat = n at h e
  subst e
  interval_cases n <;> decide

theorem column_apply (w : S8388608.Idx → BitVec 32) (p : Fin 8388608) (h : (w (query p)).toNat < 21) :
    (column w (ixP p)).toInt = ((w (query p)).toNat : ℤ) :=
  (congrArg BitVec.toInt (bcast_col1 bcast_S8388608_S8388608x1_0 _ p)).trans (wrap_word (w (query p)) h)

theorem take_apply (T : S21.Idx → F .f32) (w : S8388608.Idx → BitVec 32) (hw : ∀ p, (w (query p)).toNat < 21) (p : Fin 8388608) :
    take T w (query p) = T (entry (w (query p)).toNat) := by
  have hin : ∀ i, inside w i = 1#1 := by
    intro i
    have hi : i = ixP (i 0) := by
      funext b; match b with | ⟨0, _⟩ => rfl | ⟨1, _⟩ => exact Subsingleton.elim (α := Fin 1) _ _
    rw [hi]
    have hc := column_apply w (i 0) (hw _)
    have hl := hw (i 0)
    show IntOp.andi (IntOp.cmpi .sge (column w (ixP (i 0))) 0#32) (IntOp.cmpi .sle (column w (ixP (i 0))) 20#32) = 1#1
    have h1 : IntOp.cmpi .sge (column w (ixP (i 0))) 0#32 = 1#1 := by
      simp only [IntOp.cmpi, BitVec.sle_eq_decide, hc]
      simp
    have h2 : IntOp.cmpi .sle (column w (ixP (i 0))) 20#32 = 1#1 := by
      simp only [IntOp.cmpi, BitVec.sle_eq_decide, hc]
      rw [decide_eq_true (by change _ ≤ (20 : ℤ); omega)]; rfl
    rw [h1, h2]; rfl
  have hall := Host.reduce_andi_one (inside w) (constantI S_ 1 1#1) reducesTo_S8388608x1_S8388608_d1 h_S_ (query p) rfl hin
  unfold take select
  dsimp only
  rw [hall]
  refine (gather_take gather_S21_S8388608x1_S8388608_n_0_n_n_0_1_1 rfl rfl rfl rfl T (column w) p (by omega)).trans ?_
  have e : (column w (ixP p)).toInt.toNat = (w (query p)).toNat := by rw [column_apply w p (hw p), Int.toNat_natCast]
  exact congrArg (fun k => T (entry k)) e

/-- The reference's result at query `p`: the chord of its segment. -/
theorem result_apply (x : S8388608x1.Idx → F .f32) (P h : S21.Idx → F .f32) (hc : ∀ p, 1 ≤ hits x P p) (p : Fin 8388608) (i : ℕ)
    (hi : i = min (hits x P p - 1) 19) :
    result x P h (query p) = FloatOps.addf (h (entry i))
      (FloatOps.mulf (FloatOps.hostDivf (FloatOps.subf (clipped x P (query p)) (P (entry i))) (FloatOps.subf (P (entry (i + 1))) (P (entry i))))
        (FloatOps.subf (h (entry (i + 1))) (h (entry i)))) := by
  have hp : ∀ q, (place x P (query q)).toNat = min (hits x P q - 1) 19 := fun q => place_toNat x P q (hc q)
  have hn : ∀ q, (next (place x P) (query q)).toNat = min (hits x P q - 1) 19 + 1 := fun q => by
    rw [next_toNat _ _ (by rw [hp]; omega), hp]
  have t0 : ∀ T : S21.Idx → F .f32, take T (place x P) (query p) = T (entry i) := fun T => by
    rw [take_apply T _ (fun q => by rw [hp]; omega) p, hp, hi]
  have t1 : ∀ T : S21.Idx → F .f32, take T (next (place x P)) (query p) = T (entry (i + 1)) := fun T => by
    rw [take_apply T _ (fun q => by rw [hn]; omega) p, hn, hi]
  show FloatOps.addf (take h (place x P) (query p))
      (FloatOps.mulf (FloatOps.hostDivf (FloatOps.subf (clipped x P (query p)) (take P (place x P) (query p)))
        (FloatOps.subf (take P (next (place x P)) (query p)) (take P (place x P) (query p))))
        (FloatOps.subf (take h (next (place x P)) (query p)) (take h (place x P) (query p)))) = _
  rw [t0, t0, t1, t1]

end Cert.Proof.Ref

end
-- ==== Proof.Math.lean ====
/-
  The mathematics: on an increasing grid of twenty-one points, the chord a segment gives, the segment a count of grid points
  gives, the segment a scaled position gives, and that two segments holding a point give it one value.
-/
module

public import Idealize.ShloMosaic.Lib.IdealHost
public import Mathlib.Tactic.FieldSimp
public import Mathlib.Tactic.Ring
public import Mathlib.Tactic.Linarith
public import Mathlib.Order.Interval.Finset.Fin

@[expose] public section

noncomputable section

namespace Cert.Proof.Line

open Idealize.ShloMosaic

/-- Neighbouring grid points in order. -/
def Rising (p : ℕ → ℝ) : Prop := ∀ k, k < 20 → p k < p (k + 1)

/-- `x` lies in segment `k`, ends included. -/
def Holds (p : ℕ → ℝ) (k : ℕ) (x : ℝ) : Prop := p k ≤ x ∧ x ≤ p (k + 1)

/-- The chord over segment `k`, at `x`. -/
def chord (p h : ℕ → ℝ) (k : ℕ) (x : ℝ) : ℝ := h k + (x - p k) / (p (k + 1) - p k) * (h (k + 1) - h k)

theorem Rising.lt {p : ℕ → ℝ} (hp : Rising p) {i j : ℕ} (hij : i < j) (hj : j ≤ 20) : p i < p j := by
  induction j with
  | zero => omega
  | succ j ih =>
    rcases Nat.lt_or_ge i j with h | h
    · exact (ih h (by omega)).trans (hp j (by omega))
    · obtain rfl : i = j := by omega
      exact hp i (by omega)

theorem Rising.le {p : ℕ → ℝ} (hp : Rising p) {i j : ℕ} (hij : i ≤ j) (hj : j ≤ 20) : p i ≤ p j := by
  rcases Nat.eq_or_lt_of_le hij with rfl | h
  · exact le_rfl
  · exact (hp.lt h hj).le

/-- At a segment's left end the chord is the left value. -/
theorem chord_left (p h : ℕ → ℝ) (k : ℕ) : chord p h k (p k) = h k := by simp [chord]

/-- At its right end, the right value. -/
theorem chord_right {p : ℕ → ℝ} (h : ℕ → ℝ) (k : ℕ) (hk : p k < p (k + 1)) : chord p h k (p (k + 1)) = h (k + 1) := by
  simp [chord, div_self (sub_pos.mpr hk).ne']

/-- Of two segments holding a point, the lower ends where the higher starts, and the point is there. -/
theorem chord_eq_of_lt {p : ℕ → ℝ} (hp : Rising p) (h : ℕ → ℝ) {i k : ℕ} {x : ℝ} (hik : i < k) (hk : k < 20)
    (hi : Holds p i x) (hx : Holds p k x) : chord p h i x = chord p h k x := by
  have e : k = i + 1 := by
    by_contra hne
    have := hp.lt (i := i + 1) (j := k) (by omega) (by omega)
    linarith [hi.2, hx.1]
  subst e
  have ex : x = p (i + 1) := le_antisymm hi.2 hx.1
  rw [ex, chord_left, chord_right h i (hp i (by omega))]

/-- Two segments holding a point give it one value. -/
theorem chord_eq {p : ℕ → ℝ} (hp : Rising p) (h : ℕ → ℝ) {i k : ℕ} {x : ℝ} (hi' : i < 20) (hk : k < 20)
    (hi : Holds p i x) (hx : Holds p k x) : chord p h i x = chord p h k x := by
  rcases lt_trichotomy i k with hlt | rfl | hlt
  · exact chord_eq_of_lt hp h hlt hk hi hx
  · rfl
  · exact (chord_eq_of_lt hp h hlt hi' hx hi).symm

open Classical in
/-- The number of grid points at or below a point of the grid's range, less one and at most 19, is a segment holding it. -/
theorem holds_of_count {p : ℕ → ℝ} (hp : Rising p) {x : ℝ} (h0 : p 0 ≤ x) (h20 : x ≤ p 20) (n : ℕ)
    (hn : n = (Finset.univ.filter fun q : Fin 21 => p q.val ≤ x).card) : 1 ≤ n ∧ Holds p (min (n - 1) 19) x := by
  obtain ⟨i, hi, hle, hgt⟩ : ∃ i, i ≤ 20 ∧ p i ≤ x ∧ ∀ j, i < j → j ≤ 20 → ¬p j ≤ x :=
    ⟨Nat.findGreatest (fun k => p k ≤ x) 20, Nat.findGreatest_le 20, Nat.findGreatest_spec (P := fun k => p k ≤ x) (Nat.zero_le 20) h0,
      fun j hj hj' => Nat.findGreatest_is_greatest hj hj'⟩
  have hset : (Finset.univ.filter fun q : Fin 21 => p q.val ≤ x) = Finset.Iic (⟨i, by omega⟩ : Fin 21) := by
    ext q
    simp only [Finset.mem_filter, Finset.mem_univ, true_and, Finset.mem_Iic, Fin.le_def]
    constructor
    · intro hq
      by_contra hlt
      exact hgt q.val (by omega) (by omega) hq
    · intro hq
      exact (hp.le hq hi).trans hle
  rw [hset, Fin.card_Iic] at hn
  simp only at hn
  subst hn
  refine ⟨by omega, ?_⟩
  rcases Nat.lt_or_ge i 20 with hlt | hge
  · have e : min (i + 1 - 1) 19 = i := by omega
    rw [e]
    exact ⟨hle, (not_le.mp (hgt (i + 1) (by omega) (by omega))).le⟩
  · obtain rfl : i = 20 := by omega
    exact ⟨(hp 19 (by omega)).le.trans hle, h20⟩

/-- On evenly spaced points, the whole part of a point's scaled position, at most 19, is a segment holding it. -/
theorem holds_of_floor {p : ℕ → ℝ} {d : ℝ} (hd : 0 < d) (hp : ∀ k, k ≤ 20 → p k = p 0 + k * d) {x : ℝ} (h0 : p 0 ≤ x) (h20 : x ≤ p 20) :
    0 ≤ (x - p 0) / d ∧ (x - p 0) / d ≤ 20 ∧ Holds p (min (⌊(x - p 0) / d⌋.toNat) 19) x := by
  have hy0 : 0 ≤ (x - p 0) / d := div_nonneg (by linarith) hd.le
  have hy20 : (x - p 0) / d ≤ 20 := by
    rw [div_le_iff₀ hd]
    have := hp 20 le_rfl
    push_cast at this
    linarith
  have ex : x = p 0 + (x - p 0) / d * d := by field_simp; ring
  refine ⟨hy0, hy20, ?_⟩
  generalize (x - p 0) / d = y at hy0 hy20 ex
  have hf0 : 0 ≤ ⌊y⌋ := Int.floor_nonneg.mpr hy0
  obtain ⟨n, hn⟩ := Int.eq_ofNat_of_zero_le hf0
  have hl : (n : ℝ) ≤ y := by have := Int.floor_le y; rw [hn] at this; exact_mod_cast this
  have hu : y < n + 1 := by have := Int.lt_floor_add_one y; rw [hn] at this; exact_mod_cast this
  rw [hn, Int.toNat_natCast]
  have hm : ((min n 19 : ℕ) : ℝ) ≤ y := le_trans (by exact_mod_cast min_le_left n 19) hl
  have hm' : y ≤ ((min n 19 : ℕ) : ℝ) + 1 := by
    rcases Nat.le_or_ge n 19 with h | h
    · rw [min_eq_left h]; exact hu.le
    · rw [min_eq_right h]; push_cast; linarith
  have hk : min n 19 ≤ 19 := min_le_right n 19
  generalize min n 19 = k at hm hm' hk
  unfold Holds
  rw [hp k (by omega), hp (k + 1) (by omega)]
  push_cast
  constructor
  · nlinarith
  · nlinarith

/-! ## In the extended reals -/

/-- The intercept-and-slope form of a chord, all its numbers finite. -/
theorem kernel_form (p0 p1 h0 h1 x : ℝ) (hp : p0 < p1) :
    (((h0 : EReal) - (p0 : EReal) * Ideal.div ((h1 : EReal) - (h0 : EReal)) ((p1 : EReal) - (p0 : EReal)))
      + (x : EReal) * Ideal.div ((h1 : EReal) - (h0 : EReal)) ((p1 : EReal) - (p0 : EReal)))
      = ((h0 + (x - p0) / (p1 - p0) * (h1 - h0) : ℝ) : EReal) := by
  have hne : p1 - p0 ≠ 0 := (sub_pos.mpr hp).ne'
  rw [← EReal.coe_sub, ← EReal.coe_sub, Ideal.div_coe hne, ← EReal.coe_mul, ← EReal.coe_mul, ← EReal.coe_sub, ← EReal.coe_mul, ← EReal.coe_add]
  congr 1
  field_simp
  ring

/-- The fraction-of-the-way form, all its numbers finite. -/
theorem reference_form (p0 p1 h0 h1 x : ℝ) (hp : p0 < p1) :
    ((h0 : EReal) + Ideal.div ((x : EReal) - (p0 : EReal)) ((p1 : EReal) - (p0 : EReal)) * ((h1 : EReal) - (h0 : EReal)))
      = ((h0 + (x - p0) / (p1 - p0) * (h1 - h0) : ℝ) : EReal) := by
  have hne : p1 - p0 ≠ 0 := (sub_pos.mpr hp).ne'
  rw [← EReal.coe_sub, ← EReal.coe_sub, ← EReal.coe_sub, Ideal.div_coe hne, ← EReal.coe_mul, ← EReal.coe_mul, ← EReal.coe_add]
  congr 1
  field_simp

/-- The scaled position, all its numbers finite. -/
theorem scaled_form (p0 p1 x : ℝ) (hp : p0 < p1) :
    ((x : EReal) * Ideal.div 1 ((p1 : EReal) - (p0 : EReal)) + -(p0 : EReal) * Ideal.div 1 ((p1 : EReal) - (p0 : EReal)))
      = (((x - p0) / (p1 - p0) : ℝ) : EReal) := by
  have hne : p1 - p0 ≠ 0 := (sub_pos.mpr hp).ne'
  rw [← EReal.coe_sub, Ideal.div_coe hne, one_mul, ← EReal.coe_neg, ← EReal.coe_mul, ← EReal.coe_mul, ← EReal.coe_add]
  congr 1
  field_simp
  ring

/-- A number from 0 to 20 made an integer is its whole part. -/
theorem toInt_word (y : ℝ) (h0 : 0 ≤ y) (h20 : y ≤ 20) : (Ideal.fptosi 32 (y : EReal)).toNat = ⌊y⌋.toNat ∧ ⌊y⌋.toNat ≤ 20 := by
  have hf0 : 0 ≤ ⌊y⌋ := Int.floor_nonneg.mpr h0
  have hf20 : ⌊y⌋ ≤ 20 := Int.floor_le_iff.mpr (by push_cast; linarith)
  obtain ⟨n, hn⟩ := Int.eq_ofNat_of_zero_le hf0
  have hn20 : n ≤ 20 := by rw [hn] at hf20; exact_mod_cast hf20
  unfold Ideal.fptosi
  rw [Ideal.toIntClamped_coe, if_pos h0, hn]
  have e : max (-((2 ^ (32 - 1) : ℕ) : ℤ)) (min (((2 ^ (32 - 1) : ℕ) : ℤ) - 1) (n : ℤ)) = (n : ℤ) := by
    push_cast; omega
  refine ⟨?_, by simpa using hn20⟩
  rw [e]
  simp only [Int.toNat_natCast, BitVec.ofInt_natCast, BitVec.toNat_ofNat]
  omega

end Cert.Proof.Line

end
-- ==== Proof.Agree.lean ====
/-
  The two results agree: where the tables are finite, the grid rises and every query lies in the segment its scaled position
  names, what the kernel writes is what the reference computes, in the extended reals.
-/
module

public import proofs.«01_k».proof.Proof.Host
public import proofs.«01_k».proof.Proof.Ref
public import proofs.«01_k».proof.Proof.Math

@[expose] public section

noncomputable section

namespace Cert.Proof.Agree

open Cert.KernelIdeal Cert.KernelIdeal.Gen
open Idealize.ShloMosaic
open Cert.Proof.Tile Cert.Proof.Ref Cert.Proof.Line

variable {F : FTy → Type} [FloatOps F]

/-! ## The tables, read -/

/-- Entry `j` of the table from position `o` on. -/
theorem slice_apply {α : Type} (o : ℕ) (T : S21.Idx → α) (h : S21.Slices ![o] S20) (j : S20.Idx) (k : ℕ) (hk : o + (j 0).val = k) (hk' : k ≤ 20) :
    extractStridedSlice S20 ![o] T h j = T (entry k) := by
  refine congrArg T (funext fun a => ?_)
  match a with
  | ⟨0, _⟩ => exact Fin.ext (show o + (j 0).val = min k 20 by omega)

/-- One entry taken as a scalar. -/
theorem scalar_apply {α : Type} (o : ℕ) (T : S21.Idx → α) (h : S21.Slices ![o] S1) (hc : S1.ShapeCasts S_) (i : S_.Idx) (ho : o ≤ 20) :
    shapeCast S_ (extractStridedSlice S1 ![o] T h) hc i = T (entry o) := by
  refine congrArg T (funext fun a => ?_)
  match a with
  | ⟨0, _⟩ =>
    refine Fin.ext ?_
    have hz : ((Shape.reshapeEquiv hc i) 0).val < 1 := ((Shape.reshapeEquiv hc i) 0).isLt
    show o + ((Shape.reshapeEquiv hc i) 0).val = min o 20
    omega

theorem scale_eq (P : S21.Idx → F .f32) :
    scale P = FloatOps.hostDivf (FloatOps.ofBits .f32 0x3F800000#32) (FloatOps.subf (P (entry 1)) (P (entry 0))) :=
  congrArg (FloatOps.hostDivf (FloatOps.ofBits .f32 0x3F800000#32))
    (congrArg₂ FloatOps.subf (scalar_apply 1 P _ _ pt (by omega)) (scalar_apply 0 P _ _ pt (by omega)))

theorem offs_eq (P : S21.Idx → F .f32) : offs P = FloatOps.mulf (FloatOps.hostNegf (P (entry 0))) (scale P) :=
  congrArg (fun y => FloatOps.mulf (FloatOps.hostNegf y) (scale P)) (scalar_apply 0 P _ _ pt (by omega))

theorem slopes_apply (P h : S21.Idx → F .f32) (w : BitVec 32) (hw : w.toNat < 20) :
    slopes P h (tblIx w) = FloatOps.hostDivf (FloatOps.subf (h (entry (w.toNat + 1))) (h (entry w.toNat)))
      (FloatOps.subf (P (entry (w.toNat + 1))) (P (entry w.toNat))) := by
  have e0 : 0 + (tblIx w 0).val = w.toNat := by show 0 + w.toNat % 20 = _; omega
  have e1 : 1 + (tblIx w 0).val = w.toNat + 1 := by show 1 + w.toNat % 20 = _; omega
  exact congrArg₂ FloatOps.hostDivf
    (congrArg₂ FloatOps.subf (slice_apply 1 h _ _ _ e1 (by omega)) (slice_apply 0 h _ _ _ e0 (by omega)))
    (congrArg₂ FloatOps.subf (slice_apply 1 P _ _ _ e1 (by omega)) (slice_apply 0 P _ _ _ e0 (by omega)))

theorem icepts_apply (P h : S21.Idx → F .f32) (w : BitVec 32) (hw : w.toNat < 20) :
    icepts P h (tblIx w) = FloatOps.subf (h (entry w.toNat)) (FloatOps.mulf (P (entry w.toNat)) (slopes P h (tblIx w))) := by
  have e0 : 0 + (tblIx w 0).val = w.toNat := by show 0 + w.toNat % 20 = _; omega
  exact congrArg₂ FloatOps.subf (slice_apply 0 h _ _ _ e0 (by omega))
    (congrArg (fun y => FloatOps.mulf y (slopes P h (tblIx w))) (slice_apply 0 P _ _ _ e0 (by omega)))

theorem clipped_apply (X : S8388608x1.Idx → F .f32) (P : S21.Idx → F .f32) (z : S8388608.Idx) :
    clipped X P z = FloatOps.minimumf (P (entry 20)) (FloatOps.maximumf (P (entry 0)) (flat X z)) :=
  congrArg₂ FloatOps.minimumf (scalar_apply 20 P _ _ _ (by omega))
    (congrArg (fun y => FloatOps.maximumf y (flat X z)) (scalar_apply 0 P _ _ _ (by omega)))

/-! ## Where they agree -/

/-- What the inputs must be: finite tables, a rising grid, and every query in the segment its scaled position names. -/
structure Fits (x : S8388608.Idx → Ideal .f32) (P h : S21.Idx → Ideal .f32) (p v : ℕ → ℝ) : Prop where
  grid : ∀ k, k ≤ 20 → P (entry k) = ((p k : ℝ) : EReal)
  table : ∀ k, k ≤ 20 → h (entry k) = ((v k : ℝ) : EReal)
  rising : Rising p
  named : ∀ z, ∃ (k : ℕ) (y : ℝ), k < 20 ∧ x z = (y : EReal) ∧ (seg (F := Ideal) (scale P) (offs P) (x z)).toNat = k ∧ Holds p k y

/-- The kernel's value at a query: the chord of the segment it names. -/
theorem val_eq {P h : S21.Idx → Ideal .f32} {p v : ℕ → ℝ} (hP : ∀ k, k ≤ 20 → P (entry k) = ((p k : ℝ) : EReal))
    (hh : ∀ k, k ≤ 20 → h (entry k) = ((v k : ℝ) : EReal)) (hp : Rising p) (s t : Ideal .f32) (y : ℝ) (k : ℕ) (hk : k < 20)
    (hs : (seg (F := Ideal) s t (y : EReal)).toNat = k) :
    val (F := Ideal) (icepts P h) (slopes P h) s t (y : EReal) = ((chord p v k y : ℝ) : EReal) := by
  unfold val
  have hw : (seg (F := Ideal) s t (y : EReal)).toNat < 20 := by omega
  rw [icepts_apply P h _ hw, slopes_apply P h _ hw, hs, hP k (by omega), hP (k + 1) (by omega), hh k (by omega), hh (k + 1) (by omega)]
  exact kernel_form (p k) (p (k + 1)) (v k) (v (k + 1)) y (hp k hk)

/-- A query inside the grid's range is its own clipping. -/
theorem clipped_eq {X : S8388608x1.Idx → Ideal .f32} {P : S21.Idx → Ideal .f32} {p : ℕ → ℝ} (hP : ∀ k, k ≤ 20 → P (entry k) = ((p k : ℝ) : EReal))
    (z : S8388608.Idx) (y : ℝ) (hy : flat X z = (y : EReal)) (h0 : p 0 ≤ y) (h20 : y ≤ p 20) : clipped X P z = (y : EReal) := by
  rw [clipped_apply, hP 20 le_rfl, hP 0 (by omega), hy]
  show min ((p 20 : ℝ) : EReal) (max ((p 0 : ℝ) : EReal) (y : EReal)) = _
  rw [max_eq_right (EReal.coe_le_coe_iff.mpr h0), min_eq_right (EReal.coe_le_coe_iff.mpr h20)]

/-- The reference's count, on real numbers. -/
theorem hits_eq {X : S8388608x1.Idx → Ideal .f32} {P : S21.Idx → Ideal .f32} {p : ℕ → ℝ} (hP : ∀ k, k ≤ 20 → P (entry k) = ((p k : ℝ) : EReal))
    (q : Fin 8388608) (y : ℝ) (hy : clipped X P (query q) = (y : EReal)) [DecidablePred fun j : Fin 21 => p j.val ≤ y] :
    hits X P q = (Finset.univ.filter fun j : Fin 21 => p j.val ≤ y).card := by
  unfold hits
  congr 1
  refine Finset.filter_congr fun j _ => ?_
  have hj : P (Shape.Idx.ofFin j) = ((p j.val : ℝ) : EReal) := by
    rw [← hP j.val (by omega)]
    exact congrArg P (congrArg Shape.Idx.ofFin (Fin.ext (show j.val = min j.val 20 by omega)))
  rw [hj, hy]
  show BitVec.ofBool (decide (((p j.val : ℝ) : EReal) ≤ (y : EReal))) = 1#1 ↔ _
  rw [StableHlo.Predicate.ofBool_eq_one_iff, decide_eq_true_iff, EReal.coe_le_coe_iff]

open Classical in
/-- What the kernel writes is the reference's result. -/
theorem agree {X : S8388608x1.Idx → Ideal .f32} {P h : S21.Idx → Ideal .f32} {p v : ℕ → ℝ} (hf : Fits (flat X) P h p v) :
    vals (F := Ideal) (icepts P h) (slopes P h) (scale P) (offs P) (flat X) = result X P h := by
  have key : ∀ q : Fin 8388608, ∃ (k : ℕ) (y : ℝ), k < 20 ∧ flat X (query q) = (y : EReal)
      ∧ (seg (F := Ideal) (scale P) (offs P) (flat X (query q))).toNat = k ∧ Holds p k y ∧ clipped X P (query q) = (y : EReal)
      ∧ 1 ≤ hits X P q ∧ Holds p (min (hits X P q - 1) 19) y := fun q => by
    obtain ⟨k, y, hk, hy, hs, hy'⟩ := hf.named (query q)
    have h0 : p 0 ≤ y := (hf.rising.le (Nat.zero_le k) (by omega)).trans hy'.1
    have h20 : y ≤ p 20 := hy'.2.trans (hf.rising.le (by omega) le_rfl)
    have hc := clipped_eq hf.grid (query q) y hy h0 h20
    obtain ⟨h1, h2⟩ := holds_of_count hf.rising h0 h20 (hits X P q) (hits_eq hf.grid q y hc)
    exact ⟨k, y, hk, hy, hs, hy', hc, h1, h2⟩
  funext z
  obtain ⟨q, rfl⟩ : ∃ q : Fin 8388608, z = query q := ⟨z 0, Shape.Idx.eq_ofFin z⟩
  obtain ⟨k, y, hk, hy, hs, hy', hc, h1, h2⟩ := key q
  rw [result_apply X P h (fun q' => by obtain ⟨_, _, _, _, _, _, _, h1', _⟩ := key q'; exact h1') q _ rfl]
  have hi : min (hits X P q - 1) 19 < 20 := by omega
  generalize min (hits X P q - 1) 19 = i at h2 hi
  rw [hc, hf.grid i (by omega), hf.grid (i + 1) (by omega), hf.table i (by omega), hf.table (i + 1) (by omega)]
  show val (F := Ideal) (icepts P h) (slopes P h) (scale P) (offs P) (flat X (query q)) = _
  rw [hy] at hs ⊢
  rw [val_eq hf.grid hf.table hf.rising _ _ y k hk hs, chord_eq hf.rising v hk hi hy' h2]
  exact (reference_form (p i) (p (i + 1)) (v i) (v (i + 1)) y (hf.rising i hi)).symm

end Cert.Proof.Agree

end
-- ==== Proof.Pre.lean ====
/-
  What each precondition says: the printed functions read at an element, and from them what the run and the agreement of the
  two results ask of the inputs.
-/
module

public import proofs.«01_k».proof.Proof.Launch
public import proofs.«01_k».proof.Proof.Agree
public import proofs.«01_k».proof.Proof.Gen.Pre_segment_named
public import proofs.«01_k».proof.Proof.Gen.Pre_in_segment
public import proofs.«01_k».proof.Proof.Gen.Pre_uniform_grid

@[expose] public section

noncomputable section

namespace Cert.Proof.Pre

open Cert.KernelIdeal Cert.KernelIdeal.Gen
open Idealize.ShloMosaic Idealize.ShloMosaic.StableHlo.Predicate
open Cert.Proof.Tile Cert.Proof.Ref Cert.Proof.Line Cert.Proof.Agree

variable {F : FTy → Type} [FloatOps F]

/-! ## Words -/

theorem andi_one : ∀ a b : BitVec 1, IntOp.andi a b = 1#1 → a = 1#1 ∧ b = 1#1 := by decide

theorem ori_one : ∀ a b : BitVec 1, IntOp.ori a b = 1#1 → a = 1#1 ∨ b = 1#1 := by decide

/-- A word at most 19 by its sign and not negative is below 20. -/
theorem lt_of_sge (w : BitVec 32) (h : IntOp.cmpi .sge (IntOp.minsi w 19#32) 0#32 = 1#1) : (IntOp.minsi w 19#32).toNat < 20 := by
  have h19 : (IntOp.minsi w 19#32).toInt ≤ 19 := by
    unfold IntOp.minsi
    split
    · next hs => simp only [BitVec.slt_eq_decide, decide_eq_true_eq] at hs; have : (19#32 : BitVec 32).toInt = 19 := rfl; omega
    · exact le_of_eq rfl
  generalize IntOp.minsi w 19#32 = u at h h19
  have h0 : (0 : ℤ) ≤ u.toInt := by
    simpa only [IntOp.cmpi, ofBool_eq_one_iff, BitVec.sle_eq_decide, decide_eq_true_eq, BitVec.toInt_zero] using h
  have := BitVec.toInt_eq_toNat_cond u
  split at this <;> omega

/-- The lesser of 19 and a word at most 20. -/
theorem minsi_toNat (w : BitVec 32) (h : w.toNat ≤ 20) : (IntOp.minsi w 19#32).toNat = min w.toNat 19 := by
  have e : w = BitVec.ofNat 32 w.toNat := by simp
  generalize w.toNat = n at h e
  subst e
  interval_cases n <;> decide

/-! ## The scaled position's segment is one of twenty -/

/-- The segment each query names. -/
def segs (x : S8388608x1.Idx → F .f32) (P : S21.Idx → F .f32) : S8388608.Idx → BitVec 32 := fun z => seg (scale P) (offs P) (flat x z)

theorem segment_named_eq (x : S8388608x1.Idx → F .f32) (P h : S21.Idx → F .f32) :
    Cert.Pre_segment_named.fn x P h = fun z => IntOp.cmpi .sge (segs x P z) 0#32 := rfl

theorem lt_of_segs (x : S8388608x1.Idx → F .f32) (P : S21.Idx → F .f32) (z : S8388608.Idx) (h : IntOp.cmpi .sge (segs x P z) 0#32 = 1#1) :
    (segs x P z).toNat < 20 := lt_of_sge _ h

/-! ## The two stronger preconditions, as pairs of a query and a segment -/

abbrev S8388608x20 : Shape := ⟨2, ![8388608, 20]⟩

/-- A value per query, repeated for every segment. -/
abbrev across {α : Type} (v : S8388608.Idx → α) : S8388608x20.Idx → α :=
  broadcastInDim S8388608x20 ![0, 1] Cert.Pre_in_segment.Gen.bcast_S8388608x1_S8388608x20_0_1
    (broadcastInDim S8388608x1 ![0] Cert.Pre_in_segment.Gen.bcast_S8388608_S8388608x1_0 v)

/-- A value per segment, repeated for every query. -/
abbrev down {α : Type} (v : S20.Idx → α) : S8388608x20.Idx → α :=
  broadcastInDim S8388608x20 ![0, 1] Cert.Pre_in_segment.Gen.bcast_S1x20_S8388608x20_0_1
    (broadcastInDim ⟨2, ![1, 20]⟩ ![1] Cert.Pre_in_segment.Gen.bcast_S20_S1x20_1 v)

/-- Each segment's left entry of a table. -/
abbrev lo (T : S21.Idx → F .f32) : S20.Idx → F .f32 := extractStridedSlice S20 ![0] T Cert.Pre_in_segment.Gen.slices_S21_S20_0
/-- Each segment's right entry. -/
abbrev hi (T : S21.Idx → F .f32) : S20.Idx → F .f32 := extractStridedSlice S20 ![1] T Cert.Pre_in_segment.Gen.slices_S21_S20_1

/-- A number's size is below infinity. -/
def small (y : F .f32) : BitVec 1 := FloatOps.cmpf .olt (FloatOps.hostAbsf y) (FloatOps.ofBits .f32 0x7F800000#32)

/-- The tables are finite at a segment's ends, and the ends in order. -/
def sound (P h : S21.Idx → F .f32) : S20.Idx → BitVec 1 := fun j =>
  IntOp.andi (IntOp.andi (IntOp.andi (IntOp.andi (small (lo P j)) (small (hi P j))) (FloatOps.cmpf .olt (lo P j) (hi P j))) (small (lo h j))) (small (hi h j))

theorem in_segment_eq (x : S8388608x1.Idx → F .f32) (P h : S21.Idx → F .f32) :
    Cert.Pre_in_segment.fn x P h
      = andi (andi (across fun z => IntOp.cmpi .sge (segs x P z) 0#32) (down (sound P h)))
          (ori (cmpi .ne (across (segs x P)) (down (iotaInDim S20 32 0)))
            (andi (cmpf .ole (down (lo P)) (across (flat x))) (cmpf .ole (across (flat x)) (down (hi P))))) := rfl

/-- The even spacing of the grid, at a segment's ends. -/
def even (P : S21.Idx → F .f32) : S20.Idx → BitVec 1 := fun j =>
  IntOp.andi
    (FloatOps.cmpf .oeq (lo P j) (FloatOps.addf (grid₀ P pt) (FloatOps.mulf (FloatOps.sitofp .f32 (iotaInDim S20 32 0 j)) (FloatOps.subf (grid₁ P pt) (grid₀ P pt)))))
    (FloatOps.cmpf .oeq (hi P j) (FloatOps.addf (grid₀ P pt)
      (FloatOps.mulf (FloatOps.addf (FloatOps.sitofp .f32 (iotaInDim S20 32 0 j)) (FloatOps.ofBits .f32 0x3F800000#32)) (FloatOps.subf (grid₁ P pt) (grid₀ P pt)))))

/-- The last grid point, as a scalar. -/
def grid₂₀ (P : S21.Idx → F .f32) : S_.Idx → F .f32 :=
  shapeCast S_ (extractStridedSlice S1 ![20] P Cert.Pre_uniform_grid.Gen.slices_S21_S1_20) shapeCasts_S1_S_

theorem uniform_grid_eq (x : S8388608x1.Idx → F .f32) (P h : S21.Idx → F .f32) :
    Cert.Pre_uniform_grid.fn x P h
      = andi (across fun z => IntOp.andi (FloatOps.cmpf .ole (grid₀ P pt) (flat x z)) (FloatOps.cmpf .ole (flat x z) (grid₂₀ P pt)))
          (down fun j => IntOp.andi (sound P h j) (even P j)) := rfl

/-! ## Read in the extended reals -/

theorem le_of_cmp {a b : Ideal .f32} (h : FloatOps.cmpf (F := Ideal) .ole a b = 1#1) : (a : EReal) ≤ b :=
  of_decide_eq_true ((ofBool_eq_one_iff _).mp h)

theorem lt_of_cmp {a b : Ideal .f32} (h : FloatOps.cmpf (F := Ideal) .olt a b = 1#1) : (a : EReal) < b :=
  of_decide_eq_true ((ofBool_eq_one_iff _).mp h)

theorem eq_of_cmp {a b : Ideal .f32} (h : FloatOps.cmpf (F := Ideal) .oeq a b = 1#1) : (a : EReal) = b :=
  of_decide_eq_true ((ofBool_eq_one_iff _).mp h)

/-- A number of size below infinity is a real number. -/
theorem real_of_small (y : Ideal .f32) (h : small (F := Ideal) y = 1#1) : y = ((EReal.toReal y : ℝ) : EReal) := by
  have hlt : max (y : EReal) (-y) < Ideal.ofBits .f32 0x7F800000#32 := lt_of_cmp h
  rw [show Ideal.ofBits .f32 0x7F800000#32 = (⊤ : EReal) by simp [Ideal.ofBits, Ideal.ieee], max_lt_iff] at hlt
  refine (EReal.coe_toReal (ne_of_lt hlt.1) fun hb => ?_).symm
  rw [hb] at hlt
  exact absurd hlt.2 (by simp)

/-- A number between two real numbers is one. -/
theorem real_of_between (y : EReal) (a b : ℝ) (ha : (a : EReal) ≤ y) (hb : y ≤ (b : EReal)) : y = ((EReal.toReal y : ℝ) : EReal) :=
  (EReal.coe_toReal (ne_of_lt (lt_of_le_of_lt hb (EReal.coe_lt_top b))) (ne_of_gt (lt_of_lt_of_le (EReal.bot_lt_coe a) ha))).symm

/-- A table's entries as real numbers. -/
def reals (T : S21.Idx → Ideal .f32) (k : ℕ) : ℝ := EReal.toReal (T (entry k))

theorem lo_apply (T : S21.Idx → F .f32) (q : Fin 20) : lo T (Shape.Idx.ofFin q) = T (entry q.val) :=
  slice_apply 0 T _ _ _ (by rw [Shape.Idx.ofFin_zero]; omega) (by omega)

theorem hi_apply (T : S21.Idx → F .f32) (q : Fin 20) : hi T (Shape.Idx.ofFin q) = T (entry (q.val + 1)) :=
  slice_apply 1 T _ _ _ (by rw [Shape.Idx.ofFin_zero]; omega) (by omega)

/-- What a sound segment says. -/
theorem sound_apply {P h : S21.Idx → Ideal .f32} (q : Fin 20) (hs : sound (F := Ideal) P h (Shape.Idx.ofFin q) = 1#1) :
    P (entry q.val) = ((reals P q.val : ℝ) : EReal) ∧ P (entry (q.val + 1)) = ((reals P (q.val + 1) : ℝ) : EReal)
      ∧ P (entry q.val) < (P (entry (q.val + 1)) : EReal)
      ∧ h (entry q.val) = ((reals h q.val : ℝ) : EReal) ∧ h (entry (q.val + 1)) = ((reals h (q.val + 1) : ℝ) : EReal) := by
  unfold sound at hs
  rw [lo_apply, hi_apply, lo_apply, hi_apply] at hs
  obtain ⟨hs, h5⟩ := andi_one _ _ hs
  obtain ⟨hs, h4⟩ := andi_one _ _ hs
  obtain ⟨hs, h3⟩ := andi_one _ _ hs
  obtain ⟨h1, h2⟩ := andi_one _ _ hs
  exact ⟨real_of_small _ h1, real_of_small _ h2, lt_of_cmp h3, real_of_small _ h4, real_of_small _ h5⟩

/-- Every segment sound: the tables are real and the grid rises. -/
theorem tables_of_sound {P h : S21.Idx → Ideal .f32} (hs : ∀ q : Fin 20, sound (F := Ideal) P h (Shape.Idx.ofFin q) = 1#1) :
    (∀ k, k ≤ 20 → P (entry k) = ((reals P k : ℝ) : EReal)) ∧ (∀ k, k ≤ 20 → h (entry k) = ((reals h k : ℝ) : EReal)) ∧ Rising (reals P) := by
  have at20 (T : S21.Idx → Ideal .f32) (hl : ∀ q : Fin 20, T (entry q.val) = ((reals T q.val : ℝ) : EReal))
      (hr : ∀ q : Fin 20, T (entry (q.val + 1)) = ((reals T (q.val + 1) : ℝ) : EReal)) (k : ℕ) (hk : k ≤ 20) : T (entry k) = ((reals T k : ℝ) : EReal) := by
    rcases Nat.lt_or_ge k 20 with hlt | hge
    · exact hl ⟨k, hlt⟩
    · obtain rfl : k = 20 := by omega
      exact hr ⟨19, by omega⟩
  refine ⟨at20 P (fun q => (sound_apply q (hs q)).1) (fun q => (sound_apply q (hs q)).2.1),
    at20 h (fun q => (sound_apply q (hs q)).2.2.2.1) (fun q => (sound_apply q (hs q)).2.2.2.2), fun k hk => ?_⟩
  obtain ⟨e0, e1, hlt, -⟩ := sound_apply ⟨k, hk⟩ (hs ⟨k, hk⟩)
  rw [e0, e1] at hlt
  exact EReal.coe_lt_coe_iff.mp hlt

/-- `in_segment` at one query and one segment. -/
theorem in_segment_apply {x : S8388608x1.Idx → Ideal .f32} {P h : S21.Idx → Ideal .f32} (hf : Cert.Pre_in_segment.fn (F := Ideal) x P h = fun _ => 1#1)
    (p : Fin 8388608) (q : Fin 20) :
    IntOp.cmpi .sge (segs (F := Ideal) x P (query p)) 0#32 = 1#1 ∧ sound (F := Ideal) P h (Shape.Idx.ofFin q) = 1#1
      ∧ ((segs (F := Ideal) x P (query p)).toNat = q.val → P (entry q.val) ≤ (flat x (query p) : EReal) ∧ flat x (query p) ≤ (P (entry (q.val + 1)) : EReal)) := by
  have e := congrFun ((in_segment_eq x P h).symm.trans hf) (ij p q)
  obtain ⟨e, e2⟩ := andi_one _ _ e
  obtain ⟨e0, e1⟩ := andi_one _ _ e
  refine ⟨(bcast_rows _ _ _ p q).symm.trans e0, (bcast_cols _ _ _ p q).symm.trans e1, fun hq => ?_⟩
  rcases ori_one _ _ e2 with e3 | e3
  · exfalso
    have hr : across (segs (F := Ideal) x P) (ij p q) = segs (F := Ideal) x P (query p) := bcast_rows _ _ _ p q
    have hc : down (iotaInDim S20 32 0) (ij p q) = BitVec.ofNat 32 q.val := bcast_cols _ _ _ p q
    have e4 : IntOp.cmpi .ne (across (segs (F := Ideal) x P) (ij p q)) (down (iotaInDim S20 32 0) (ij p q)) = 1#1 := e3
    rw [hr, hc, ← hq] at e4
    simp [IntOp.cmpi] at e4
  · obtain ⟨e4, e5⟩ := andi_one _ _ e3
    have hx : across (flat x) (ij p q) = flat x (query p) := bcast_rows _ _ _ p q
    have hl : down (lo P) (ij p q) = P (entry q.val) := (bcast_cols _ _ _ p q).trans (lo_apply P q)
    have hh : down (hi P) (ij p q) = P (entry (q.val + 1)) := (bcast_cols _ _ _ p q).trans (hi_apply P q)
    have e6 : FloatOps.cmpf (F := Ideal) .ole (down (lo P) (ij p q)) (across (flat x) (ij p q)) = 1#1 := e4
    have e7 : FloatOps.cmpf (F := Ideal) .ole (across (flat x) (ij p q)) (down (hi P) (ij p q)) = 1#1 := e5
    rw [hl, hx] at e6
    rw [hx, hh] at e7
    exact ⟨le_of_cmp e6, le_of_cmp e7⟩

/-- `in_segment` gives what the agreement asks. -/
theorem fits_of_in_segment {x : S8388608x1.Idx → Ideal .f32} {P h : S21.Idx → Ideal .f32} (hf : Cert.Pre_in_segment.fn (F := Ideal) x P h = fun _ => 1#1) :
    Fits (flat x) P h (reals P) (reals h) := by
  obtain ⟨hP, hh, hr⟩ := tables_of_sound fun q => (in_segment_apply hf 0 q).2.1
  refine ⟨hP, hh, hr, fun z => ?_⟩
  obtain ⟨p, rfl⟩ : ∃ p : Fin 8388608, z = query p := ⟨z 0, Shape.Idx.eq_ofFin z⟩
  have hk := lt_of_segs (F := Ideal) x P (query p) (in_segment_apply hf p 0).1
  obtain ⟨hl, hu⟩ := (in_segment_apply hf p ⟨_, hk⟩).2.2 rfl
  simp only at hl hu
  rw [hP _ (by omega)] at hl
  rw [hP _ (by omega)] at hu
  have hy := real_of_between _ _ _ hl hu
  refine ⟨_, _, hk, hy, rfl, ?_⟩
  rw [hy] at hl hu
  exact ⟨EReal.coe_le_coe_iff.mp hl, EReal.coe_le_coe_iff.mp hu⟩

/-- `uniform_grid` at one query and one segment. -/
theorem uniform_grid_apply {x : S8388608x1.Idx → Ideal .f32} {P h : S21.Idx → Ideal .f32} (hf : Cert.Pre_uniform_grid.fn (F := Ideal) x P h = fun _ => 1#1)
    (p : Fin 8388608) (q : Fin 20) :
    (P (entry 0) ≤ (flat x (query p) : EReal) ∧ flat x (query p) ≤ (P (entry 20) : EReal)) ∧ sound (F := Ideal) P h (Shape.Idx.ofFin q) = 1#1
      ∧ (P (entry q.val) : EReal) = P (entry 0) + ((q.val : ℝ) : EReal) * (P (entry 1) - P (entry 0))
      ∧ (P (entry (q.val + 1)) : EReal) = P (entry 0) + (((q.val : ℝ) : EReal) + 1) * (P (entry 1) - P (entry 0)) := by
  have e := congrFun ((uniform_grid_eq x P h).symm.trans hf) (ij p q)
  obtain ⟨e0, e1⟩ := andi_one _ _ e
  have f0 := (bcast_rows _ _ _ p q).symm.trans e0
  have f1 := (bcast_cols _ _ _ p q).symm.trans e1
  obtain ⟨f2, f3⟩ := andi_one _ _ f0
  obtain ⟨f4, f5⟩ := andi_one _ _ f1
  unfold even at f5
  obtain ⟨f6, f7⟩ := andi_one _ _ f5
  have g0 : grid₀ P pt = P (entry 0) := scalar_apply 0 P _ _ pt (by omega)
  have g1 : grid₁ P pt = P (entry 1) := scalar_apply 1 P _ _ pt (by omega)
  have g20 : grid₂₀ P pt = P (entry 20) := scalar_apply 20 P _ _ pt (by omega)
  have hn : FloatOps.sitofp (F := Ideal) .f32 (iotaInDim S20 32 0 (Shape.Idx.ofFin q)) = ((q.val : ℝ) : EReal) := by
    show ((((BitVec.ofNat 32 q.val).toInt : ℤ) : ℝ) : EReal) = _
    rw [toInt_ofNat_small q.val (by omega), Int.cast_natCast]
  have h1 : FloatOps.ofBits (F := Ideal) .f32 0x3F800000#32 = (1 : EReal) := Ideal.ofBits_one_f32
  rw [g0] at f2
  rw [g20] at f3
  rw [lo_apply, hn, g0, g1] at f6
  rw [hi_apply, hn, g0, g1, h1] at f7
  exact ⟨⟨le_of_cmp f2, le_of_cmp f3⟩, f4, eq_of_cmp f6, eq_of_cmp f7⟩

/-- `uniform_grid` gives what the agreement asks. -/
theorem fits_of_uniform_grid {x : S8388608x1.Idx → Ideal .f32} {P h : S21.Idx → Ideal .f32} (hf : Cert.Pre_uniform_grid.fn (F := Ideal) x P h = fun _ => 1#1) :
    Fits (flat x) P h (reals P) (reals h) := by
  obtain ⟨hP, hh, hr⟩ := tables_of_sound fun q => (uniform_grid_apply hf 0 q).2.1
  have hd : 0 < reals P 1 - reals P 0 := sub_pos.mpr (hr 0 (by omega))
  have even : ∀ k, k ≤ 20 → reals P k = reals P 0 + k * (reals P 1 - reals P 0) := by
    intro k hk
    rcases Nat.lt_or_ge k 20 with hlt | hge
    · have e := (uniform_grid_apply hf 0 ⟨k, hlt⟩).2.2.1
      simp only at e
      rw [hP k hk, hP 0 (by omega), hP 1 (by omega), ← EReal.coe_sub, ← EReal.coe_mul, ← EReal.coe_add] at e
      exact EReal.coe_injective e
    · obtain rfl : k = 20 := by omega
      have e := (uniform_grid_apply hf 0 ⟨19, by omega⟩).2.2.2
      simp only [Nat.reduceAdd] at e
      rw [hP 20 hk, hP 0 (by omega), hP 1 (by omega), ← EReal.coe_sub, ← EReal.coe_one, ← EReal.coe_add, ← EReal.coe_mul, ← EReal.coe_add] at e
      rw [EReal.coe_injective e]
      push_cast
      ring
  refine ⟨hP, hh, hr, fun z => ?_⟩
  obtain ⟨p, rfl⟩ : ∃ p : Fin 8388608, z = query p := ⟨z 0, Shape.Idx.eq_ofFin z⟩
  obtain ⟨hl, hu⟩ := (uniform_grid_apply hf p 0).1
  rw [hP 0 (by omega)] at hl
  rw [hP 20 le_rfl] at hu
  have hy := real_of_between _ _ _ hl hu
  generalize EReal.toReal (flat x (query p)) = y at hy
  rw [hy] at hl hu ⊢
  obtain ⟨h0, h20, hk⟩ := holds_of_floor hd even (EReal.coe_le_coe_iff.mp hl) (EReal.coe_le_coe_iff.mp hu)
  obtain ⟨w0, w20⟩ := toInt_word _ h0 h20
  have hs : seg (F := Ideal) (scale P) (offs P) (y : EReal)
      = IntOp.minsi (Ideal.fptosi 32 (((y - reals P 0) / (reals P 1 - reals P 0) : ℝ) : EReal)) 19#32 := by
    rw [← scaled_form (reals P 0) (reals P 1) y (hr 0 (by omega))]
    unfold seg
    rw [offs_eq, scale_eq, hP 0 (by omega), hP 1 (by omega), show FloatOps.ofBits (F := Ideal) .f32 0x3F800000#32 = (1 : EReal) from Ideal.ofBits_one_f32]
    rfl
  refine ⟨_, y, ?_, rfl, ?_, hk⟩
  · omega
  · rw [hs, minsi_toNat _ (by omega), w0]

end Cert.Proof.Pre

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_segment_named
public import proofs.«01_k».proof.Proof.Gen.Pre_in_segment
public import proofs.«01_k».proof.Proof.Gen.Pre_uniform_grid
public import proofs.«01_k».proof.Proof.Pre
public import Idealize.ShloMosaic.Adequacy
public import Idealize.ShloMosaic.Init

@[expose] public section

noncomputable section

namespace Cert.Proof

open Idealize.ShloMosaic Idealize.SL.Sem
open Cert.Proof.Tile

/-! ## The kernel's run from each precondition -/

/-- `segment_named`, over any float values, is what the run asks. -/
theorem ok_of_named {F : FTy → Type} [FloatOps F] (m : (ℓ : Loc Cert.KernelIdeal.nD Cert.KernelIdeal.τ Cert.KernelIdeal.sig) → Buf (Elt F) ℓ)
    (h : ∀ d, Cert.Pre_segment_named.fn (F := F) (m (qArg d)) (m (gArg d)) (m (hArg d)) = fun _ => 1#1) : PreOK m := fun d z =>
  Pre.lt_of_segs (m (qArg d)) (m (gArg d)) z (congrFun ((Pre.segment_named_eq (m (qArg d)) (m (gArg d)) (m (hArg d))).symm.trans (h d)) z)

/-- Inputs the agreement takes are inputs the run takes. -/
theorem ok_of_fits (m : (ℓ : Loc Cert.KernelIdeal.nD Cert.KernelIdeal.τ Cert.KernelIdeal.sig) → Buf (Elt Ideal) ℓ)
    (h : ∀ d, Agree.Fits (flat (F := Ideal) (m (qArg d))) (m (gArg d)) (m (hArg d)) (Pre.reals (m (gArg d))) (Pre.reals (m (hArg d)))) :
    PreOK (F := Ideal) m := fun d z => by
  obtain ⟨k, _, hk, _, hs, _⟩ := (h d).named z
  exact lt_of_eq_of_lt hs hk

/-- `Cert.quiescent_Kernel`. -/
theorem frame_kernel : Cert.quiescent_Kernel := fun m ρ hpre =>
  (θ_run Cert.KernelIdeal.defs _ _).mono (fun _ h => ⟨fun c => (h.1 c).2, h.2⟩) (run_main (F := Bits) m ρ (ok_of_named m hpre))

/-- `Cert.quiescent_KernelIdeal`. -/
theorem frame_ideal : Cert.quiescent_KernelIdeal := fun m ρ hpre =>
  (θ_run Cert.KernelIdeal.defs _ _).mono (fun _ h => ⟨fun c => (h.1 c).2, h.2⟩) (run_main (F := Ideal) m ρ (ok_of_named m hpre))

/-- `Cert.quiescent_KernelIdeal_pre_in_segment`. -/
theorem frame_in_segment : Cert.quiescent_KernelIdeal_pre_in_segment := fun m ρ hpre =>
  (θ_run Cert.KernelIdeal.defs _ _).mono (fun _ h => ⟨fun c => (h.1 c).2, h.2⟩)
    (run_main (F := Ideal) m ρ (ok_of_fits m fun d => Pre.fits_of_in_segment (hpre d)))

/-- `Cert.quiescent_KernelIdeal_pre_uniform_grid`. -/
theorem frame_uniform_grid : Cert.quiescent_KernelIdeal_pre_uniform_grid := fun m ρ hpre =>
  (θ_run Cert.KernelIdeal.defs _ _).mono (fun _ h => ⟨fun c => (h.1 c).2, h.2⟩)
    (run_main (F := Ideal) m ρ (ok_of_fits m fun d => Pre.fits_of_uniform_grid (hpre d)))

/-! ## The reference's run -/

/-- The reference leaves its arguments as they were; it has no counter. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-! ## The two results -/

/-- Where every device's inputs fit, both programs run and end with one result and their arguments unchanged. -/
theorem same_result (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hfit : ∀ d, Agree.Fits (flat (F := Ideal) (m (qArg d))) (m (gArg d)) (m (hArg d)) (Pre.reals (m (gArg d))) (Pre.reals (m (hArg d))))
    (hm : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    ∃ v0 : (c : Dev Cert.KernelIdeal.nD) → Buf (Elt Ideal) ((c.tc : Thread Cert.KernelIdeal.nD Cert.KernelIdeal.τ).loc Cert.KernelIdeal.main_v25),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  have hres : ∀ c : Dev Cert.KernelIdeal.nD, Cert.ReferenceIdeal.Value.res_out0 (F := Ideal) m' c = out (F := Ideal) m c := fun c => by
    rw [Ref.res_eq, (hm c).1, (hm c).2.1, (hm c).2.2]
    exact (Agree.agree (hfit c)).symm
  exact ⟨fun c => out (F := Ideal) m c,
    (θ_run Cert.KernelIdeal.defs _ _).mono (fun _ h c => h.1 c) (run_main (F := Ideal) m g (ok_of_fits m hfit)),
    (θ_run Cert.ReferenceIdeal.defs _ _).mono (fun _ h c => ⟨(h c).1.trans (hres c), (h c).2⟩) (Cert.ReferenceIdeal.Value.run (F := Ideal) m' g')⟩

/-- `Cert.algebraic_KernelIdeal_ReferenceIdeal_pre_in_segment`. -/
theorem algebraic_in_segment : Cert.algebraic_KernelIdeal_ReferenceIdeal_pre_in_segment := fun m g m' g' hpre hm =>
  same_result m g m' g' (fun d => Pre.fits_of_in_segment (hpre d)) hm

/-- `Cert.algebraic_KernelIdeal_ReferenceIdeal_pre_uniform_grid`. -/
theorem algebraic_uniform_grid : Cert.algebraic_KernelIdeal_ReferenceIdeal_pre_uniform_grid := fun m g m' g' hpre hm =>
  same_result m g m' g' (fun d => Pre.fits_of_uniform_grid (hpre d)) hm

/-- Every claim. -/
theorem claim : Cert.Claim := ⟨Cert.Kernel.Gen.facts, Cert.KernelIdeal.Gen.facts, Cert.ReferenceIdeal.Gen.facts,
  Cert.Pre_segment_named.Gen.facts, Cert.Pre_in_segment.Gen.facts, Cert.Pre_uniform_grid.Gen.facts,
  frame_kernel, frame_ideal, frame_in_segment, frame_uniform_grid,
  fun m ρ _ => reference_run m ρ, fun m ρ _ => reference_run m ρ, fun m ρ _ => reference_run m ρ,
  trivial, algebraic_in_segment, algebraic_uniform_grid⟩

end Cert.Proof

end
